-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S8x1024x512 : Shape := ⟨3, ![8, 1024, 512]⟩
abbrev S8x512x256 : Shape := ⟨3, ![8, 512, 256]⟩
abbrev S_ : Shape := ⟨0, ![]⟩
abbrev S8 : Shape := ⟨1, ![8]⟩
abbrev S1x1024x512 : Shape := ⟨3, ![1, 1024, 512]⟩
abbrev S1024x512 : Shape := ⟨2, ![1024, 512]⟩
abbrev S512x1024 : Shape := ⟨2, ![512, 1024]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 5
  | .vmem => 4
  | .smem => 2
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .bf16⟩
  | .local _ .vmem, ⟨0, _⟩ => ⟨S4096x256, .bf16⟩
  | .local _ .vmem, ⟨1, _⟩ => ⟨S512x4096, .f32⟩
  | .local _ .vmem, ⟨2, _⟩ => ⟨S8x1024x512, .f32⟩
  | .local _ .vmem, ⟨3, _⟩ => ⟨S8x512x256, .bf16⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) (c0_i32_4 : BitVec 32) : Fin 2 → Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.addi v12 c0_i32_4
  let c4_i32_5 : BitVec 32 := 4#32
  let c0_i32_6 : BitVec 32 := 0#32
  let v14 : BitVec 1 := Scalar.cmpi .eq c4_i32_5 c0_i32_6
  let c1_i32_7 : BitVec 32 := 1#32
  let v15 : BitVec 32 := Scalar.select v14 c1_i32_7 c4_i32_5
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c512_i32 : BitVec 32 := 512#32
  let v24 : BitVec 32 := Scalar.muli v23 c512_i32
  ![0, v24.toNat]
def k0_off2 (d0 : Dev nD) (c0_i32_16 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v30 : BitVec 32 := Scalar.addi v12 c0_i32_16
  let c4_i32_17 : BitVec 32 := 4#32
  let c0_i32_18 : BitVec 32 := 0#32
  let v31 : BitVec 1 := Scalar.cmpi .eq c4_i32_17 c0_i32_18
  let c1_i32_19 : BitVec 32 := 1#32
  let v32 : BitVec 32 := Scalar.select v31 c1_i32_19 c4_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c512_i32_23 : BitVec 32 := 512#32
  let v41 : BitVec 32 := Scalar.muli v40 c512_i32_23
  ![1024, v41.toNat]
def k0_off3 (d0 : Dev nD) (c0_i32_28 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v47 : BitVec 32 := Scalar.addi v12 c0_i32_28
  let c4_i32_29 : BitVec 32 := 4#32
  let c0_i32_30 : BitVec 32 := 0#32
  let v48 : BitVec 1 := Scalar.cmpi .eq c4_i32_29 c0_i32_30
  let c1_i32_31 : BitVec 32 := 1#32
  let v49 : BitVec 32 := Scalar.select v48 c1_i32_31 c4_i32_29
  let v50 : BitVec 32 := Scalar.remsi v47 v49
  let c0_i32_33 : BitVec 32 := 0#32
  let v52 : BitVec 1 := Scalar.cmpi .slt v50 c0_i32_33
  let c0_i32_34 : BitVec 32 := 0#32
  let v53 : BitVec 1 := Scalar.cmpi .slt v49 c0_i32_34
  let v54 : BitVec 1 := Scalar.xori v52 v53
  let c0_i32_32 : BitVec 32 := 0#32
  let v51 : BitVec 1 := Scalar.cmpi .ne v50 c0_i32_32
  let v55 : BitVec 1 := Scalar.andi v54 v51
  let v56 : BitVec 32 := Scalar.addi v50 v49
  let v57 : BitVec 32 := Scalar.select v55 v56 v50
  let c512_i32_35 : BitVec 32 := 512#32
  let v58 : BitVec 32 := Scalar.muli v57 c512_i32_35
  ![2048, v58.toNat]
def k0_off4 (d0 : Dev nD) (c0_i32_39 : BitVec 32) : Fin 2 → Nat :=
  let c3072_i32 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v64 : BitVec 32 := Scalar.addi v12 c0_i32_39
  let c4_i32_40 : BitVec 32 := 4#32
  let c0_i32_41 : BitVec 32 := 0#32
  let v65 : BitVec 1 := Scalar.cmpi .eq c4_i32_40 c0_i32_41
  let c1_i32_42 : BitVec 32 := 1#32
  let v66 : BitVec 32 := Scalar.select v65 c1_i32_42 c4_i32_40
  let v67 : BitVec 32 := Scalar.remsi v64 v66
  let c0_i32_44 : BitVec 32 := 0#32
  let v69 : BitVec 1 := Scalar.cmpi .slt v67 c0_i32_44
  let c0_i32_45 : BitVec 32 := 0#32
  let v70 : BitVec 1 := Scalar.cmpi .slt v66 c0_i32_45
  let v71 : BitVec 1 := Scalar.xori v69 v70
  let c0_i32_43 : BitVec 32 := 0#32
  let v68 : BitVec 1 := Scalar.cmpi .ne v67 c0_i32_43
  let v72 : BitVec 1 := Scalar.andi v71 v68
  let v73 : BitVec 32 := Scalar.addi v67 v66
  let v74 : BitVec 32 := Scalar.select v72 v73 v67
  let c512_i32_46 : BitVec 32 := 512#32
  let v75 : BitVec 32 := Scalar.muli v74 c512_i32_46
  ![3072, v75.toNat]
def k0_dev1 : Nat :=
  let c0_i32_79 : BitVec 32 := 0#32
  let c0_i32_77 : BitVec 32 := 0#32
  let c1_i32_78 : BitVec 32 := 1#32
  let v119 : BitVec 32 := Scalar.muli c0_i32_77 c1_i32_78
  let v120 : BitVec 32 := Scalar.addi c0_i32_79 v119
  v120.toNat
def k0_dev2 : Nat :=
  let c0_i32_83 : BitVec 32 := 0#32
  let c1_i32_81 : BitVec 32 := 1#32
  let c1_i32_82 : BitVec 32 := 1#32
  let v121 : BitVec 32 := Scalar.muli c1_i32_81 c1_i32_82
  let v122 : BitVec 32 := Scalar.addi c0_i32_83 v121
  v122.toNat
def k0_dev3 : Nat :=
  let c0_i32_87 : BitVec 32 := 0#32
  let c2_i32_85 : BitVec 32 := 2#32
  let c1_i32_86 : BitVec 32 := 1#32
  let v123 : BitVec 32 := Scalar.muli c2_i32_85 c1_i32_86
  let v124 : BitVec 32 := Scalar.addi c0_i32_87 v123
  v124.toNat
def k0_dev4 : Nat :=
  let c0_i32_91 : BitVec 32 := 0#32
  let c3_i32_89 : BitVec 32 := 3#32
  let c1_i32_90 : BitVec 32 := 1#32
  let v125 : BitVec 32 := Scalar.muli c3_i32_89 c1_i32_90
  let v126 : BitVec 32 := Scalar.addi c0_i32_91 v125
  v126.toNat
def k0_dev5 : Nat :=
  let c0_i32_95 : BitVec 32 := 0#32
  let c4_i32_93 : BitVec 32 := 4#32
  let c1_i32_94 : BitVec 32 := 1#32
  let v127 : BitVec 32 := Scalar.muli c4_i32_93 c1_i32_94
  let v128 : BitVec 32 := Scalar.addi c0_i32_95 v127
  v128.toNat
def k0_dev6 : Nat :=
  let c0_i32_99 : BitVec 32 := 0#32
  let c5_i32_97 : BitVec 32 := 5#32
  let c1_i32_98 : BitVec 32 := 1#32
  let v129 : BitVec 32 := Scalar.muli c5_i32_97 c1_i32_98
  let v130 : BitVec 32 := Scalar.addi c0_i32_99 v129
  v130.toNat
def k0_dev7 : Nat :=
  let c0_i32_102 : BitVec 32 := 0#32
  let c6_i32 : BitVec 32 := 6#32
  let c1_i32_101 : BitVec 32 := 1#32
  let v131 : BitVec 32 := Scalar.muli c6_i32 c1_i32_101
  let v132 : BitVec 32 := Scalar.addi c0_i32_102 v131
  v132.toNat
def k0_dev8 : Nat :=
  let c0_i32_105 : BitVec 32 := 0#32
  let c7_i32 : BitVec 32 := 7#32
  let c1_i32_104 : BitVec 32 := 1#32
  let v133 : BitVec 32 := Scalar.muli c7_i32 c1_i32_104
  let v134 : BitVec 32 := Scalar.addi c0_i32_105 v133
  v134.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_229 : BitVec 32 := 0#32
  let v305 : BitVec 32 := Scalar.addi v12 c0_i32_229
  let c4_i32_230 : BitVec 32 := 4#32
  let c0_i32_231 : BitVec 32 := 0#32
  let v306 : BitVec 1 := Scalar.cmpi .eq c4_i32_230 c0_i32_231
  let c1_i32_232 : BitVec 32 := 1#32
  let v307 : BitVec 32 := Scalar.select v306 c1_i32_232 c4_i32_230
  let v308 : BitVec 32 := Scalar.remsi v305 v307
  let c0_i32_234 : BitVec 32 := 0#32
  let v310 : BitVec 1 := Scalar.cmpi .slt v308 c0_i32_234
  let c0_i32_235 : BitVec 32 := 0#32
  let v311 : BitVec 1 := Scalar.cmpi .slt v307 c0_i32_235
  let v312 : BitVec 1 := Scalar.xori v310 v311
  let c0_i32_233 : BitVec 32 := 0#32
  let v309 : BitVec 1 := Scalar.cmpi .ne v308 c0_i32_233
  let v313 : BitVec 1 := Scalar.andi v312 v309
  let v314 : BitVec 32 := Scalar.addi v308 v307
  let v315 : BitVec 32 := Scalar.select v313 v314 v308
  let c2_i32_236 : BitVec 32 := 2#32
  let v316 : BitVec 32 := Scalar.muli v315 c2_i32_236
  let c0_i32_237 : BitVec 32 := 0#32
  let v317 : BitVec 32 := Scalar.addi v316 c0_i32_237
  let v319 : BitVec 1 := Scalar.cmpi .ne v317 v2
  let v320 : BitVec 32 := Scalar.extui v319
  let c0_i32_241 : BitVec 32 := 0#32
  let v321 : BitVec 1 := Scalar.cmpi .ne v320 c0_i32_241
  v321

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_238 : BitVec 32 := 512#32
  let v318 : BitVec 32 := Scalar.muli v2 c512_i32_238
  let c0_i32_854 : BitVec 32 := 0#32
  ![v318.toNat, 0]
def k0_dev9 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_229 : BitVec 32 := 0#32
  let v305 : BitVec 32 := Scalar.addi v12 c0_i32_229
  let c4_i32_230 : BitVec 32 := 4#32
  let c0_i32_231 : BitVec 32 := 0#32
  let v306 : BitVec 1 := Scalar.cmpi .eq c4_i32_230 c0_i32_231
  let c1_i32_232 : BitVec 32 := 1#32
  let v307 : BitVec 32 := Scalar.select v306 c1_i32_232 c4_i32_230
  let v308 : BitVec 32 := Scalar.remsi v305 v307
  let c0_i32_234 : BitVec 32 := 0#32
  let v310 : BitVec 1 := Scalar.cmpi .slt v308 c0_i32_234
  let c0_i32_235 : BitVec 32 := 0#32
  let v311 : BitVec 1 := Scalar.cmpi .slt v307 c0_i32_235
  let v312 : BitVec 1 := Scalar.xori v310 v311
  let c0_i32_233 : BitVec 32 := 0#32
  let v309 : BitVec 1 := Scalar.cmpi .ne v308 c0_i32_233
  let v313 : BitVec 1 := Scalar.andi v312 v309
  let v314 : BitVec 32 := Scalar.addi v308 v307
  let v315 : BitVec 32 := Scalar.select v313 v314 v308
  let c2_i32_236 : BitVec 32 := 2#32
  let v316 : BitVec 32 := Scalar.muli v315 c2_i32_236
  let c0_i32_237 : BitVec 32 := 0#32
  let v317 : BitVec 32 := Scalar.addi v316 c0_i32_237
  let c1_i32_852 : BitVec 32 := 1#32
  let v1152 : BitVec 32 := Scalar.muli v317 c1_i32_852
  let v1153 : BitVec 32 := Scalar.addi c0_i32_853 v1152
  v1153.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_229 : BitVec 32 := 0#32
  let v305 : BitVec 32 := Scalar.addi v12 c0_i32_229
  let c4_i32_230 : BitVec 32 := 4#32
  let c0_i32_231 : BitVec 32 := 0#32
  let v306 : BitVec 1 := Scalar.cmpi .eq c4_i32_230 c0_i32_231
  let c1_i32_232 : BitVec 32 := 1#32
  let v307 : BitVec 32 := Scalar.select v306 c1_i32_232 c4_i32_230
  let v308 : BitVec 32 := Scalar.remsi v305 v307
  let c0_i32_234 : BitVec 32 := 0#32
  let v310 : BitVec 1 := Scalar.cmpi .slt v308 c0_i32_234
  let c0_i32_235 : BitVec 32 := 0#32
  let v311 : BitVec 1 := Scalar.cmpi .slt v307 c0_i32_235
  let v312 : BitVec 1 := Scalar.xori v310 v311
  let c0_i32_233 : BitVec 32 := 0#32
  let v309 : BitVec 1 := Scalar.cmpi .ne v308 c0_i32_233
  let v313 : BitVec 1 := Scalar.andi v312 v309
  let v314 : BitVec 32 := Scalar.addi v308 v307
  let v315 : BitVec 32 := Scalar.select v313 v314 v308
  let c2_i32_236 : BitVec 32 := 2#32
  let v316 : BitVec 32 := Scalar.muli v315 c2_i32_236
  let c0_i32_237 : BitVec 32 := 0#32
  let v317 : BitVec 32 := Scalar.addi v316 c0_i32_237
  let v322 : BitVec 1 := Scalar.cmpi .eq v317 v2
  let v323 : BitVec 32 := Scalar.extui v322
  let c0_i32_242 : BitVec 32 := 0#32
  let v324 : BitVec 1 := Scalar.cmpi .ne v323 c0_i32_242
  v324

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_246 : BitVec 32 := 0#32
  let v329 : BitVec 32 := Scalar.addi v12 c0_i32_246
  let c4_i32_247 : BitVec 32 := 4#32
  let c0_i32_248 : BitVec 32 := 0#32
  let v330 : BitVec 1 := Scalar.cmpi .eq c4_i32_247 c0_i32_248
  let c1_i32_249 : BitVec 32 := 1#32
  let v331 : BitVec 32 := Scalar.select v330 c1_i32_249 c4_i32_247
  let v332 : BitVec 32 := Scalar.remsi v329 v331
  let c0_i32_251 : BitVec 32 := 0#32
  let v334 : BitVec 1 := Scalar.cmpi .slt v332 c0_i32_251
  let c0_i32_252 : BitVec 32 := 0#32
  let v335 : BitVec 1 := Scalar.cmpi .slt v331 c0_i32_252
  let v336 : BitVec 1 := Scalar.xori v334 v335
  let c0_i32_250 : BitVec 32 := 0#32
  let v333 : BitVec 1 := Scalar.cmpi .ne v332 c0_i32_250
  let v337 : BitVec 1 := Scalar.andi v336 v333
  let v338 : BitVec 32 := Scalar.addi v332 v331
  let v339 : BitVec 32 := Scalar.select v337 v338 v332
  let c2_i32_253 : BitVec 32 := 2#32
  let v340 : BitVec 32 := Scalar.muli v339 c2_i32_253
  let c1_i32_254 : BitVec 32 := 1#32
  let v341 : BitVec 32 := Scalar.addi v340 c1_i32_254
  let v343 : BitVec 1 := Scalar.cmpi .ne v341 v2
  let v344 : BitVec 32 := Scalar.extui v343
  let c0_i32_258 : BitVec 32 := 0#32
  let v345 : BitVec 1 := Scalar.cmpi .ne v344 c0_i32_258
  v345

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_255 : BitVec 32 := 512#32
  let v342 : BitVec 32 := Scalar.muli v2 c512_i32_255
  let c0_i32_854 : BitVec 32 := 0#32
  ![v342.toNat, 0]
def k0_dev10 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_246 : BitVec 32 := 0#32
  let v329 : BitVec 32 := Scalar.addi v12 c0_i32_246
  let c4_i32_247 : BitVec 32 := 4#32
  let c0_i32_248 : BitVec 32 := 0#32
  let v330 : BitVec 1 := Scalar.cmpi .eq c4_i32_247 c0_i32_248
  let c1_i32_249 : BitVec 32 := 1#32
  let v331 : BitVec 32 := Scalar.select v330 c1_i32_249 c4_i32_247
  let v332 : BitVec 32 := Scalar.remsi v329 v331
  let c0_i32_251 : BitVec 32 := 0#32
  let v334 : BitVec 1 := Scalar.cmpi .slt v332 c0_i32_251
  let c0_i32_252 : BitVec 32 := 0#32
  let v335 : BitVec 1 := Scalar.cmpi .slt v331 c0_i32_252
  let v336 : BitVec 1 := Scalar.xori v334 v335
  let c0_i32_250 : BitVec 32 := 0#32
  let v333 : BitVec 1 := Scalar.cmpi .ne v332 c0_i32_250
  let v337 : BitVec 1 := Scalar.andi v336 v333
  let v338 : BitVec 32 := Scalar.addi v332 v331
  let v339 : BitVec 32 := Scalar.select v337 v338 v332
  let c2_i32_253 : BitVec 32 := 2#32
  let v340 : BitVec 32 := Scalar.muli v339 c2_i32_253
  let c1_i32_254 : BitVec 32 := 1#32
  let v341 : BitVec 32 := Scalar.addi v340 c1_i32_254
  let c1_i32_852 : BitVec 32 := 1#32
  let v1152 : BitVec 32 := Scalar.muli v341 c1_i32_852
  let v1153 : BitVec 32 := Scalar.addi c0_i32_853 v1152
  v1153.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_246 : BitVec 32 := 0#32
  let v329 : BitVec 32 := Scalar.addi v12 c0_i32_246
  let c4_i32_247 : BitVec 32 := 4#32
  let c0_i32_248 : BitVec 32 := 0#32
  let v330 : BitVec 1 := Scalar.cmpi .eq c4_i32_247 c0_i32_248
  let c1_i32_249 : BitVec 32 := 1#32
  let v331 : BitVec 32 := Scalar.select v330 c1_i32_249 c4_i32_247
  let v332 : BitVec 32 := Scalar.remsi v329 v331
  let c0_i32_251 : BitVec 32 := 0#32
  let v334 : BitVec 1 := Scalar.cmpi .slt v332 c0_i32_251
  let c0_i32_252 : BitVec 32 := 0#32
  let v335 : BitVec 1 := Scalar.cmpi .slt v331 c0_i32_252
  let v336 : BitVec 1 := Scalar.xori v334 v335
  let c0_i32_250 : BitVec 32 := 0#32
  let v333 : BitVec 1 := Scalar.cmpi .ne v332 c0_i32_250
  let v337 : BitVec 1 := Scalar.andi v336 v333
  let v338 : BitVec 32 := Scalar.addi v332 v331
  let v339 : BitVec 32 := Scalar.select v337 v338 v332
  let c2_i32_253 : BitVec 32 := 2#32
  let v340 : BitVec 32 := Scalar.muli v339 c2_i32_253
  let c1_i32_254 : BitVec 32 := 1#32
  let v341 : BitVec 32 := Scalar.addi v340 c1_i32_254
  let v346 : BitVec 1 := Scalar.cmpi .eq v341 v2
  let v347 : BitVec 32 := Scalar.extui v346
  let c0_i32_259 : BitVec 32 := 0#32
  let v348 : BitVec 1 := Scalar.cmpi .ne v347 c0_i32_259
  v348

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_380 : BitVec 32 := 1#32
  let v517 : BitVec 32 := Scalar.addi v12 c1_i32_380
  let c4_i32_381 : BitVec 32 := 4#32
  let c0_i32_382 : BitVec 32 := 0#32
  let v518 : BitVec 1 := Scalar.cmpi .eq c4_i32_381 c0_i32_382
  let c1_i32_383 : BitVec 32 := 1#32
  let v519 : BitVec 32 := Scalar.select v518 c1_i32_383 c4_i32_381
  let v520 : BitVec 32 := Scalar.remsi v517 v519
  let c0_i32_385 : BitVec 32 := 0#32
  let v522 : BitVec 1 := Scalar.cmpi .slt v520 c0_i32_385
  let c0_i32_386 : BitVec 32 := 0#32
  let v523 : BitVec 1 := Scalar.cmpi .slt v519 c0_i32_386
  let v524 : BitVec 1 := Scalar.xori v522 v523
  let c0_i32_384 : BitVec 32 := 0#32
  let v521 : BitVec 1 := Scalar.cmpi .ne v520 c0_i32_384
  let v525 : BitVec 1 := Scalar.andi v524 v521
  let v526 : BitVec 32 := Scalar.addi v520 v519
  let v527 : BitVec 32 := Scalar.select v525 v526 v520
  let c2_i32_387 : BitVec 32 := 2#32
  let v528 : BitVec 32 := Scalar.muli v527 c2_i32_387
  let c0_i32_388 : BitVec 32 := 0#32
  let v529 : BitVec 32 := Scalar.addi v528 c0_i32_388
  let v531 : BitVec 1 := Scalar.cmpi .ne v529 v2
  let v532 : BitVec 32 := Scalar.extui v531
  let c0_i32_392 : BitVec 32 := 0#32
  let v533 : BitVec 1 := Scalar.cmpi .ne v532 c0_i32_392
  v533

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_389 : BitVec 32 := 512#32
  let v530 : BitVec 32 := Scalar.muli v2 c512_i32_389
  let c0_i32_854 : BitVec 32 := 0#32
  ![v530.toNat, 0]
def k0_dev11 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_380 : BitVec 32 := 1#32
  let v517 : BitVec 32 := Scalar.addi v12 c1_i32_380
  let c4_i32_381 : BitVec 32 := 4#32
  let c0_i32_382 : BitVec 32 := 0#32
  let v518 : BitVec 1 := Scalar.cmpi .eq c4_i32_381 c0_i32_382
  let c1_i32_383 : BitVec 32 := 1#32
  let v519 : BitVec 32 := Scalar.select v518 c1_i32_383 c4_i32_381
  let v520 : BitVec 32 := Scalar.remsi v517 v519
  let c0_i32_385 : BitVec 32 := 0#32
  let v522 : BitVec 1 := Scalar.cmpi .slt v520 c0_i32_385
  let c0_i32_386 : BitVec 32 := 0#32
  let v523 : BitVec 1 := Scalar.cmpi .slt v519 c0_i32_386
  let v524 : BitVec 1 := Scalar.xori v522 v523
  let c0_i32_384 : BitVec 32 := 0#32
  let v521 : BitVec 1 := Scalar.cmpi .ne v520 c0_i32_384
  let v525 : BitVec 1 := Scalar.andi v524 v521
  let v526 : BitVec 32 := Scalar.addi v520 v519
  let v527 : BitVec 32 := Scalar.select v525 v526 v520
  let c2_i32_387 : BitVec 32 := 2#32
  let v528 : BitVec 32 := Scalar.muli v527 c2_i32_387
  let c0_i32_388 : BitVec 32 := 0#32
  let v529 : BitVec 32 := Scalar.addi v528 c0_i32_388
  let c1_i32_852 : BitVec 32 := 1#32
  let v1152 : BitVec 32 := Scalar.muli v529 c1_i32_852
  let v1153 : BitVec 32 := Scalar.addi c0_i32_853 v1152
  v1153.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_380 : BitVec 32 := 1#32
  let v517 : BitVec 32 := Scalar.addi v12 c1_i32_380
  let c4_i32_381 : BitVec 32 := 4#32
  let c0_i32_382 : BitVec 32 := 0#32
  let v518 : BitVec 1 := Scalar.cmpi .eq c4_i32_381 c0_i32_382
  let c1_i32_383 : BitVec 32 := 1#32
  let v519 : BitVec 32 := Scalar.select v518 c1_i32_383 c4_i32_381
  let v520 : BitVec 32 := Scalar.remsi v517 v519
  let c0_i32_385 : BitVec 32 := 0#32
  let v522 : BitVec 1 := Scalar.cmpi .slt v520 c0_i32_385
  let c0_i32_386 : BitVec 32 := 0#32
  let v523 : BitVec 1 := Scalar.cmpi .slt v519 c0_i32_386
  let v524 : BitVec 1 := Scalar.xori v522 v523
  let c0_i32_384 : BitVec 32 := 0#32
  let v521 : BitVec 1 := Scalar.cmpi .ne v520 c0_i32_384
  let v525 : BitVec 1 := Scalar.andi v524 v521
  let v526 : BitVec 32 := Scalar.addi v520 v519
  let v527 : BitVec 32 := Scalar.select v525 v526 v520
  let c2_i32_387 : BitVec 32 := 2#32
  let v528 : BitVec 32 := Scalar.muli v527 c2_i32_387
  let c0_i32_388 : BitVec 32 := 0#32
  let v529 : BitVec 32 := Scalar.addi v528 c0_i32_388
  let v534 : BitVec 1 := Scalar.cmpi .eq v529 v2
  let v535 : BitVec 32 := Scalar.extui v534
  let c0_i32_393 : BitVec 32 := 0#32
  let v536 : BitVec 1 := Scalar.cmpi .ne v535 c0_i32_393
  v536

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_397 : BitVec 32 := 1#32
  let v541 : BitVec 32 := Scalar.addi v12 c1_i32_397
  let c4_i32_398 : BitVec 32 := 4#32
  let c0_i32_399 : BitVec 32 := 0#32
  let v542 : BitVec 1 := Scalar.cmpi .eq c4_i32_398 c0_i32_399
  let c1_i32_400 : BitVec 32 := 1#32
  let v543 : BitVec 32 := Scalar.select v542 c1_i32_400 c4_i32_398
  let v544 : BitVec 32 := Scalar.remsi v541 v543
  let c0_i32_402 : BitVec 32 := 0#32
  let v546 : BitVec 1 := Scalar.cmpi .slt v544 c0_i32_402
  let c0_i32_403 : BitVec 32 := 0#32
  let v547 : BitVec 1 := Scalar.cmpi .slt v543 c0_i32_403
  let v548 : BitVec 1 := Scalar.xori v546 v547
  let c0_i32_401 : BitVec 32 := 0#32
  let v545 : BitVec 1 := Scalar.cmpi .ne v544 c0_i32_401
  let v549 : BitVec 1 := Scalar.andi v548 v545
  let v550 : BitVec 32 := Scalar.addi v544 v543
  let v551 : BitVec 32 := Scalar.select v549 v550 v544
  let c2_i32_404 : BitVec 32 := 2#32
  let v552 : BitVec 32 := Scalar.muli v551 c2_i32_404
  let c1_i32_405 : BitVec 32 := 1#32
  let v553 : BitVec 32 := Scalar.addi v552 c1_i32_405
  let v555 : BitVec 1 := Scalar.cmpi .ne v553 v2
  let v556 : BitVec 32 := Scalar.extui v555
  let c0_i32_409 : BitVec 32 := 0#32
  let v557 : BitVec 1 := Scalar.cmpi .ne v556 c0_i32_409
  v557

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_406 : BitVec 32 := 512#32
  let v554 : BitVec 32 := Scalar.muli v2 c512_i32_406
  let c0_i32_854 : BitVec 32 := 0#32
  ![v554.toNat, 0]
def k0_dev12 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_397 : BitVec 32 := 1#32
  let v541 : BitVec 32 := Scalar.addi v12 c1_i32_397
  let c4_i32_398 : BitVec 32 := 4#32
  let c0_i32_399 : BitVec 32 := 0#32
  let v542 : BitVec 1 := Scalar.cmpi .eq c4_i32_398 c0_i32_399
  let c1_i32_400 : BitVec 32 := 1#32
  let v543 : BitVec 32 := Scalar.select v542 c1_i32_400 c4_i32_398
  let v544 : BitVec 32 := Scalar.remsi v541 v543
  let c0_i32_402 : BitVec 32 := 0#32
  let v546 : BitVec 1 := Scalar.cmpi .slt v544 c0_i32_402
  let c0_i32_403 : BitVec 32 := 0#32
  let v547 : BitVec 1 := Scalar.cmpi .slt v543 c0_i32_403
  let v548 : BitVec 1 := Scalar.xori v546 v547
  let c0_i32_401 : BitVec 32 := 0#32
  let v545 : BitVec 1 := Scalar.cmpi .ne v544 c0_i32_401
  let v549 : BitVec 1 := Scalar.andi v548 v545
  let v550 : BitVec 32 := Scalar.addi v544 v543
  let v551 : BitVec 32 := Scalar.select v549 v550 v544
  let c2_i32_404 : BitVec 32 := 2#32
  let v552 : BitVec 32 := Scalar.muli v551 c2_i32_404
  let c1_i32_405 : BitVec 32 := 1#32
  let v553 : BitVec 32 := Scalar.addi v552 c1_i32_405
  let c1_i32_852 : BitVec 32 := 1#32
  let v1152 : BitVec 32 := Scalar.muli v553 c1_i32_852
  let v1153 : BitVec 32 := Scalar.addi c0_i32_853 v1152
  v1153.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_397 : BitVec 32 := 1#32
  let v541 : BitVec 32 := Scalar.addi v12 c1_i32_397
  let c4_i32_398 : BitVec 32 := 4#32
  let c0_i32_399 : BitVec 32 := 0#32
  let v542 : BitVec 1 := Scalar.cmpi .eq c4_i32_398 c0_i32_399
  let c1_i32_400 : BitVec 32 := 1#32
  let v543 : BitVec 32 := Scalar.select v542 c1_i32_400 c4_i32_398
  let v544 : BitVec 32 := Scalar.remsi v541 v543
  let c0_i32_402 : BitVec 32 := 0#32
  let v546 : BitVec 1 := Scalar.cmpi .slt v544 c0_i32_402
  let c0_i32_403 : BitVec 32 := 0#32
  let v547 : BitVec 1 := Scalar.cmpi .slt v543 c0_i32_403
  let v548 : BitVec 1 := Scalar.xori v546 v547
  let c0_i32_401 : BitVec 32 := 0#32
  let v545 : BitVec 1 := Scalar.cmpi .ne v544 c0_i32_401
  let v549 : BitVec 1 := Scalar.andi v548 v545
  let v550 : BitVec 32 := Scalar.addi v544 v543
  let v551 : BitVec 32 := Scalar.select v549 v550 v544
  let c2_i32_404 : BitVec 32 := 2#32
  let v552 : BitVec 32 := Scalar.muli v551 c2_i32_404
  let c1_i32_405 : BitVec 32 := 1#32
  let v553 : BitVec 32 := Scalar.addi v552 c1_i32_405
  let v558 : BitVec 1 := Scalar.cmpi .eq v553 v2
  let v559 : BitVec 32 := Scalar.extui v558
  let c0_i32_410 : BitVec 32 := 0#32
  let v560 : BitVec 1 := Scalar.cmpi .ne v559 c0_i32_410
  v560

def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_509 : BitVec 32 := 2#32
  let v695 : BitVec 32 := Scalar.addi v12 c2_i32_509
  let c4_i32_510 : BitVec 32 := 4#32
  let c0_i32_511 : BitVec 32 := 0#32
  let v696 : BitVec 1 := Scalar.cmpi .eq c4_i32_510 c0_i32_511
  let c1_i32_512 : BitVec 32 := 1#32
  let v697 : BitVec 32 := Scalar.select v696 c1_i32_512 c4_i32_510
  let v698 : BitVec 32 := Scalar.remsi v695 v697
  let c0_i32_514 : BitVec 32 := 0#32
  let v700 : BitVec 1 := Scalar.cmpi .slt v698 c0_i32_514
  let c0_i32_515 : BitVec 32 := 0#32
  let v701 : BitVec 1 := Scalar.cmpi .slt v697 c0_i32_515
  let v702 : BitVec 1 := Scalar.xori v700 v701
  let c0_i32_513 : BitVec 32 := 0#32
  let v699 : BitVec 1 := Scalar.cmpi .ne v698 c0_i32_513
  let v703 : BitVec 1 := Scalar.andi v702 v699
  let v704 : BitVec 32 := Scalar.addi v698 v697
  let v705 : BitVec 32 := Scalar.select v703 v704 v698
  let c2_i32_516 : BitVec 32 := 2#32
  let v706 : BitVec 32 := Scalar.muli v705 c2_i32_516
  let c0_i32_517 : BitVec 32 := 0#32
  let v707 : BitVec 32 := Scalar.addi v706 c0_i32_517
  let v709 : BitVec 1 := Scalar.cmpi .ne v707 v2
  let v710 : BitVec 32 := Scalar.extui v709
  let c0_i32_521 : BitVec 32 := 0#32
  let v711 : BitVec 1 := Scalar.cmpi .ne v710 c0_i32_521
  v711

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_518 : BitVec 32 := 512#32
  let v708 : BitVec 32 := Scalar.muli v2 c512_i32_518
  let c0_i32_854 : BitVec 32 := 0#32
  ![v708.toNat, 0]
def k0_dev13 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_509 : BitVec 32 := 2#32
  let v695 : BitVec 32 := Scalar.addi v12 c2_i32_509
  let c4_i32_510 : BitVec 32 := 4#32
  let c0_i32_511 : BitVec 32 := 0#32
  let v696 : BitVec 1 := Scalar.cmpi .eq c4_i32_510 c0_i32_511
  let c1_i32_512 : BitVec 32 := 1#32
  let v697 : BitVec 32 := Scalar.select v696 c1_i32_512 c4_i32_510
  let v698 : BitVec 32 := Scalar.remsi v695 v697
  let c0_i32_514 : BitVec 32 := 0#32
  let v700 : BitVec 1 := Scalar.cmpi .slt v698 c0_i32_514
  let c0_i32_515 : BitVec 32 := 0#32
  let v701 : BitVec 1 := Scalar.cmpi .slt v697 c0_i32_515
  let v702 : BitVec 1 := Scalar.xori v700 v701
  let c0_i32_513 : BitVec 32 := 0#32
  let v699 : BitVec 1 := Scalar.cmpi .ne v698 c0_i32_513
  let v703 : BitVec 1 := Scalar.andi v702 v699
  let v704 : BitVec 32 := Scalar.addi v698 v697
  let v705 : BitVec 32 := Scalar.select v703 v704 v698
  let c2_i32_516 : BitVec 32 := 2#32
  let v706 : BitVec 32 := Scalar.muli v705 c2_i32_516
  let c0_i32_517 : BitVec 32 := 0#32
  let v707 : BitVec 32 := Scalar.addi v706 c0_i32_517
  let c1_i32_852 : BitVec 32 := 1#32
  let v1152 : BitVec 32 := Scalar.muli v707 c1_i32_852
  let v1153 : BitVec 32 := Scalar.addi c0_i32_853 v1152
  v1153.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_509 : BitVec 32 := 2#32
  let v695 : BitVec 32 := Scalar.addi v12 c2_i32_509
  let c4_i32_510 : BitVec 32 := 4#32
  let c0_i32_511 : BitVec 32 := 0#32
  let v696 : BitVec 1 := Scalar.cmpi .eq c4_i32_510 c0_i32_511
  let c1_i32_512 : BitVec 32 := 1#32
  let v697 : BitVec 32 := Scalar.select v696 c1_i32_512 c4_i32_510
  let v698 : BitVec 32 := Scalar.remsi v695 v697
  let c0_i32_514 : BitVec 32 := 0#32
  let v700 : BitVec 1 := Scalar.cmpi .slt v698 c0_i32_514
  let c0_i32_515 : BitVec 32 := 0#32
  let v701 : BitVec 1 := Scalar.cmpi .slt v697 c0_i32_515
  let v702 : BitVec 1 := Scalar.xori v700 v701
  let c0_i32_513 : BitVec 32 := 0#32
  let v699 : BitVec 1 := Scalar.cmpi .ne v698 c0_i32_513
  let v703 : BitVec 1 := Scalar.andi v702 v699
  let v704 : BitVec 32 := Scalar.addi v698 v697
  let v705 : BitVec 32 := Scalar.select v703 v704 v698
  let c2_i32_516 : BitVec 32 := 2#32
  let v706 : BitVec 32 := Scalar.muli v705 c2_i32_516
  let c0_i32_517 : BitVec 32 := 0#32
  let v707 : BitVec 32 := Scalar.addi v706 c0_i32_517
  let v712 : BitVec 1 := Scalar.cmpi .eq v707 v2
  let v713 : BitVec 32 := Scalar.extui v712
  let c0_i32_522 : BitVec 32 := 0#32
  let v714 : BitVec 1 := Scalar.cmpi .ne v713 c0_i32_522
  v714

def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_526 : BitVec 32 := 2#32
  let v719 : BitVec 32 := Scalar.addi v12 c2_i32_526
  let c4_i32_527 : BitVec 32 := 4#32
  let c0_i32_528 : BitVec 32 := 0#32
  let v720 : BitVec 1 := Scalar.cmpi .eq c4_i32_527 c0_i32_528
  let c1_i32_529 : BitVec 32 := 1#32
  let v721 : BitVec 32 := Scalar.select v720 c1_i32_529 c4_i32_527
  let v722 : BitVec 32 := Scalar.remsi v719 v721
  let c0_i32_531 : BitVec 32 := 0#32
  let v724 : BitVec 1 := Scalar.cmpi .slt v722 c0_i32_531
  let c0_i32_532 : BitVec 32 := 0#32
  let v725 : BitVec 1 := Scalar.cmpi .slt v721 c0_i32_532
  let v726 : BitVec 1 := Scalar.xori v724 v725
  let c0_i32_530 : BitVec 32 := 0#32
  let v723 : BitVec 1 := Scalar.cmpi .ne v722 c0_i32_530
  let v727 : BitVec 1 := Scalar.andi v726 v723
  let v728 : BitVec 32 := Scalar.addi v722 v721
  let v729 : BitVec 32 := Scalar.select v727 v728 v722
  let c2_i32_533 : BitVec 32 := 2#32
  let v730 : BitVec 32 := Scalar.muli v729 c2_i32_533
  let c1_i32_534 : BitVec 32 := 1#32
  let v731 : BitVec 32 := Scalar.addi v730 c1_i32_534
  let v733 : BitVec 1 := Scalar.cmpi .ne v731 v2
  let v734 : BitVec 32 := Scalar.extui v733
  let c0_i32_538 : BitVec 32 := 0#32
  let v735 : BitVec 1 := Scalar.cmpi .ne v734 c0_i32_538
  v735

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_535 : BitVec 32 := 512#32
  let v732 : BitVec 32 := Scalar.muli v2 c512_i32_535
  let c0_i32_854 : BitVec 32 := 0#32
  ![v732.toNat, 0]
def k0_dev14 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_526 : BitVec 32 := 2#32
  let v719 : BitVec 32 := Scalar.addi v12 c2_i32_526
  let c4_i32_527 : BitVec 32 := 4#32
  let c0_i32_528 : BitVec 32 := 0#32
  let v720 : BitVec 1 := Scalar.cmpi .eq c4_i32_527 c0_i32_528
  let c1_i32_529 : BitVec 32 := 1#32
  let v721 : BitVec 32 := Scalar.select v720 c1_i32_529 c4_i32_527
  let v722 : BitVec 32 := Scalar.remsi v719 v721
  let c0_i32_531 : BitVec 32 := 0#32
  let v724 : BitVec 1 := Scalar.cmpi .slt v722 c0_i32_531
  let c0_i32_532 : BitVec 32 := 0#32
  let v725 : BitVec 1 := Scalar.cmpi .slt v721 c0_i32_532
  let v726 : BitVec 1 := Scalar.xori v724 v725
  let c0_i32_530 : BitVec 32 := 0#32
  let v723 : BitVec 1 := Scalar.cmpi .ne v722 c0_i32_530
  let v727 : BitVec 1 := Scalar.andi v726 v723
  let v728 : BitVec 32 := Scalar.addi v722 v721
  let v729 : BitVec 32 := Scalar.select v727 v728 v722
  let c2_i32_533 : BitVec 32 := 2#32
  let v730 : BitVec 32 := Scalar.muli v729 c2_i32_533
  let c1_i32_534 : BitVec 32 := 1#32
  let v731 : BitVec 32 := Scalar.addi v730 c1_i32_534
  let c1_i32_852 : BitVec 32 := 1#32
  let v1152 : BitVec 32 := Scalar.muli v731 c1_i32_852
  let v1153 : BitVec 32 := Scalar.addi c0_i32_853 v1152
  v1153.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_526 : BitVec 32 := 2#32
  let v719 : BitVec 32 := Scalar.addi v12 c2_i32_526
  let c4_i32_527 : BitVec 32 := 4#32
  let c0_i32_528 : BitVec 32 := 0#32
  let v720 : BitVec 1 := Scalar.cmpi .eq c4_i32_527 c0_i32_528
  let c1_i32_529 : BitVec 32 := 1#32
  let v721 : BitVec 32 := Scalar.select v720 c1_i32_529 c4_i32_527
  let v722 : BitVec 32 := Scalar.remsi v719 v721
  let c0_i32_531 : BitVec 32 := 0#32
  let v724 : BitVec 1 := Scalar.cmpi .slt v722 c0_i32_531
  let c0_i32_532 : BitVec 32 := 0#32
  let v725 : BitVec 1 := Scalar.cmpi .slt v721 c0_i32_532
  let v726 : BitVec 1 := Scalar.xori v724 v725
  let c0_i32_530 : BitVec 32 := 0#32
  let v723 : BitVec 1 := Scalar.cmpi .ne v722 c0_i32_530
  let v727 : BitVec 1 := Scalar.andi v726 v723
  let v728 : BitVec 32 := Scalar.addi v722 v721
  let v729 : BitVec 32 := Scalar.select v727 v728 v722
  let c2_i32_533 : BitVec 32 := 2#32
  let v730 : BitVec 32 := Scalar.muli v729 c2_i32_533
  let c1_i32_534 : BitVec 32 := 1#32
  let v731 : BitVec 32 := Scalar.addi v730 c1_i32_534
  let v736 : BitVec 1 := Scalar.cmpi .eq v731 v2
  let v737 : BitVec 32 := Scalar.extui v736
  let c0_i32_539 : BitVec 32 := 0#32
  let v738 : BitVec 1 := Scalar.cmpi .ne v737 c0_i32_539
  v738

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_612 : BitVec 32 := 3#32
  let v839 : BitVec 32 := Scalar.addi v12 c3_i32_612
  let c4_i32_613 : BitVec 32 := 4#32
  let c0_i32_614 : BitVec 32 := 0#32
  let v840 : BitVec 1 := Scalar.cmpi .eq c4_i32_613 c0_i32_614
  let c1_i32_615 : BitVec 32 := 1#32
  let v841 : BitVec 32 := Scalar.select v840 c1_i32_615 c4_i32_613
  let v842 : BitVec 32 := Scalar.remsi v839 v841
  let c0_i32_617 : BitVec 32 := 0#32
  let v844 : BitVec 1 := Scalar.cmpi .slt v842 c0_i32_617
  let c0_i32_618 : BitVec 32 := 0#32
  let v845 : BitVec 1 := Scalar.cmpi .slt v841 c0_i32_618
  let v846 : BitVec 1 := Scalar.xori v844 v845
  let c0_i32_616 : BitVec 32 := 0#32
  let v843 : BitVec 1 := Scalar.cmpi .ne v842 c0_i32_616
  let v847 : BitVec 1 := Scalar.andi v846 v843
  let v848 : BitVec 32 := Scalar.addi v842 v841
  let v849 : BitVec 32 := Scalar.select v847 v848 v842
  let c2_i32_619 : BitVec 32 := 2#32
  let v850 : BitVec 32 := Scalar.muli v849 c2_i32_619
  let c0_i32_620 : BitVec 32 := 0#32
  let v851 : BitVec 32 := Scalar.addi v850 c0_i32_620
  let v853 : BitVec 1 := Scalar.cmpi .ne v851 v2
  let v854 : BitVec 32 := Scalar.extui v853
  let c0_i32_624 : BitVec 32 := 0#32
  let v855 : BitVec 1 := Scalar.cmpi .ne v854 c0_i32_624
  v855

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_621 : BitVec 32 := 512#32
  let v852 : BitVec 32 := Scalar.muli v2 c512_i32_621
  let c0_i32_854 : BitVec 32 := 0#32
  ![v852.toNat, 0]
def k0_dev15 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_612 : BitVec 32 := 3#32
  let v839 : BitVec 32 := Scalar.addi v12 c3_i32_612
  let c4_i32_613 : BitVec 32 := 4#32
  let c0_i32_614 : BitVec 32 := 0#32
  let v840 : BitVec 1 := Scalar.cmpi .eq c4_i32_613 c0_i32_614
  let c1_i32_615 : BitVec 32 := 1#32
  let v841 : BitVec 32 := Scalar.select v840 c1_i32_615 c4_i32_613
  let v842 : BitVec 32 := Scalar.remsi v839 v841
  let c0_i32_617 : BitVec 32 := 0#32
  let v844 : BitVec 1 := Scalar.cmpi .slt v842 c0_i32_617
  let c0_i32_618 : BitVec 32 := 0#32
  let v845 : BitVec 1 := Scalar.cmpi .slt v841 c0_i32_618
  let v846 : BitVec 1 := Scalar.xori v844 v845
  let c0_i32_616 : BitVec 32 := 0#32
  let v843 : BitVec 1 := Scalar.cmpi .ne v842 c0_i32_616
  let v847 : BitVec 1 := Scalar.andi v846 v843
  let v848 : BitVec 32 := Scalar.addi v842 v841
  let v849 : BitVec 32 := Scalar.select v847 v848 v842
  let c2_i32_619 : BitVec 32 := 2#32
  let v850 : BitVec 32 := Scalar.muli v849 c2_i32_619
  let c0_i32_620 : BitVec 32 := 0#32
  let v851 : BitVec 32 := Scalar.addi v850 c0_i32_620
  let c1_i32_852 : BitVec 32 := 1#32
  let v1152 : BitVec 32 := Scalar.muli v851 c1_i32_852
  let v1153 : BitVec 32 := Scalar.addi c0_i32_853 v1152
  v1153.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_612 : BitVec 32 := 3#32
  let v839 : BitVec 32 := Scalar.addi v12 c3_i32_612
  let c4_i32_613 : BitVec 32 := 4#32
  let c0_i32_614 : BitVec 32 := 0#32
  let v840 : BitVec 1 := Scalar.cmpi .eq c4_i32_613 c0_i32_614
  let c1_i32_615 : BitVec 32 := 1#32
  let v841 : BitVec 32 := Scalar.select v840 c1_i32_615 c4_i32_613
  let v842 : BitVec 32 := Scalar.remsi v839 v841
  let c0_i32_617 : BitVec 32 := 0#32
  let v844 : BitVec 1 := Scalar.cmpi .slt v842 c0_i32_617
  let c0_i32_618 : BitVec 32 := 0#32
  let v845 : BitVec 1 := Scalar.cmpi .slt v841 c0_i32_618
  let v846 : BitVec 1 := Scalar.xori v844 v845
  let c0_i32_616 : BitVec 32 := 0#32
  let v843 : BitVec 1 := Scalar.cmpi .ne v842 c0_i32_616
  let v847 : BitVec 1 := Scalar.andi v846 v843
  let v848 : BitVec 32 := Scalar.addi v842 v841
  let v849 : BitVec 32 := Scalar.select v847 v848 v842
  let c2_i32_619 : BitVec 32 := 2#32
  let v850 : BitVec 32 := Scalar.muli v849 c2_i32_619
  let c0_i32_620 : BitVec 32 := 0#32
  let v851 : BitVec 32 := Scalar.addi v850 c0_i32_620
  let v856 : BitVec 1 := Scalar.cmpi .eq v851 v2
  let v857 : BitVec 32 := Scalar.extui v856
  let c0_i32_625 : BitVec 32 := 0#32
  let v858 : BitVec 1 := Scalar.cmpi .ne v857 c0_i32_625
  v858

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_629 : BitVec 32 := 3#32
  let v863 : BitVec 32 := Scalar.addi v12 c3_i32_629
  let c4_i32_630 : BitVec 32 := 4#32
  let c0_i32_631 : BitVec 32 := 0#32
  let v864 : BitVec 1 := Scalar.cmpi .eq c4_i32_630 c0_i32_631
  let c1_i32_632 : BitVec 32 := 1#32
  let v865 : BitVec 32 := Scalar.select v864 c1_i32_632 c4_i32_630
  let v866 : BitVec 32 := Scalar.remsi v863 v865
  let c0_i32_634 : BitVec 32 := 0#32
  let v868 : BitVec 1 := Scalar.cmpi .slt v866 c0_i32_634
  let c0_i32_635 : BitVec 32 := 0#32
  let v869 : BitVec 1 := Scalar.cmpi .slt v865 c0_i32_635
  let v870 : BitVec 1 := Scalar.xori v868 v869
  let c0_i32_633 : BitVec 32 := 0#32
  let v867 : BitVec 1 := Scalar.cmpi .ne v866 c0_i32_633
  let v871 : BitVec 1 := Scalar.andi v870 v867
  let v872 : BitVec 32 := Scalar.addi v866 v865
  let v873 : BitVec 32 := Scalar.select v871 v872 v866
  let c2_i32_636 : BitVec 32 := 2#32
  let v874 : BitVec 32 := Scalar.muli v873 c2_i32_636
  let c1_i32_637 : BitVec 32 := 1#32
  let v875 : BitVec 32 := Scalar.addi v874 c1_i32_637
  let v877 : BitVec 1 := Scalar.cmpi .ne v875 v2
  let v878 : BitVec 32 := Scalar.extui v877
  let c0_i32_641 : BitVec 32 := 0#32
  let v879 : BitVec 1 := Scalar.cmpi .ne v878 c0_i32_641
  v879

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_638 : BitVec 32 := 512#32
  let v876 : BitVec 32 := Scalar.muli v2 c512_i32_638
  let c0_i32_854 : BitVec 32 := 0#32
  ![v876.toNat, 0]
def k0_dev16 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_629 : BitVec 32 := 3#32
  let v863 : BitVec 32 := Scalar.addi v12 c3_i32_629
  let c4_i32_630 : BitVec 32 := 4#32
  let c0_i32_631 : BitVec 32 := 0#32
  let v864 : BitVec 1 := Scalar.cmpi .eq c4_i32_630 c0_i32_631
  let c1_i32_632 : BitVec 32 := 1#32
  let v865 : BitVec 32 := Scalar.select v864 c1_i32_632 c4_i32_630
  let v866 : BitVec 32 := Scalar.remsi v863 v865
  let c0_i32_634 : BitVec 32 := 0#32
  let v868 : BitVec 1 := Scalar.cmpi .slt v866 c0_i32_634
  let c0_i32_635 : BitVec 32 := 0#32
  let v869 : BitVec 1 := Scalar.cmpi .slt v865 c0_i32_635
  let v870 : BitVec 1 := Scalar.xori v868 v869
  let c0_i32_633 : BitVec 32 := 0#32
  let v867 : BitVec 1 := Scalar.cmpi .ne v866 c0_i32_633
  let v871 : BitVec 1 := Scalar.andi v870 v867
  let v872 : BitVec 32 := Scalar.addi v866 v865
  let v873 : BitVec 32 := Scalar.select v871 v872 v866
  let c2_i32_636 : BitVec 32 := 2#32
  let v874 : BitVec 32 := Scalar.muli v873 c2_i32_636
  let c1_i32_637 : BitVec 32 := 1#32
  let v875 : BitVec 32 := Scalar.addi v874 c1_i32_637
  let c1_i32_852 : BitVec 32 := 1#32
  let v1152 : BitVec 32 := Scalar.muli v875 c1_i32_852
  let v1153 : BitVec 32 := Scalar.addi c0_i32_853 v1152
  v1153.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_629 : BitVec 32 := 3#32
  let v863 : BitVec 32 := Scalar.addi v12 c3_i32_629
  let c4_i32_630 : BitVec 32 := 4#32
  let c0_i32_631 : BitVec 32 := 0#32
  let v864 : BitVec 1 := Scalar.cmpi .eq c4_i32_630 c0_i32_631
  let c1_i32_632 : BitVec 32 := 1#32
  let v865 : BitVec 32 := Scalar.select v864 c1_i32_632 c4_i32_630
  let v866 : BitVec 32 := Scalar.remsi v863 v865
  let c0_i32_634 : BitVec 32 := 0#32
  let v868 : BitVec 1 := Scalar.cmpi .slt v866 c0_i32_634
  let c0_i32_635 : BitVec 32 := 0#32
  let v869 : BitVec 1 := Scalar.cmpi .slt v865 c0_i32_635
  let v870 : BitVec 1 := Scalar.xori v868 v869
  let c0_i32_633 : BitVec 32 := 0#32
  let v867 : BitVec 1 := Scalar.cmpi .ne v866 c0_i32_633
  let v871 : BitVec 1 := Scalar.andi v870 v867
  let v872 : BitVec 32 := Scalar.addi v866 v865
  let v873 : BitVec 32 := Scalar.select v871 v872 v866
  let c2_i32_636 : BitVec 32 := 2#32
  let v874 : BitVec 32 := Scalar.muli v873 c2_i32_636
  let c1_i32_637 : BitVec 32 := 1#32
  let v875 : BitVec 32 := Scalar.addi v874 c1_i32_637
  let v880 : BitVec 1 := Scalar.cmpi .eq v875 v2
  let v881 : BitVec 32 := Scalar.extui v880
  let c0_i32_642 : BitVec 32 := 0#32
  let v882 : BitVec 1 := Scalar.cmpi .ne v881 c0_i32_642
  v882

def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_855 : BitVec 32 := 512#32
  let v1154 : BitVec 32 := Scalar.muli v2 c512_i32_855
  let v1155 : Index := Scalar.indexCast v1154
  let c0_856 : Index := 0#32
  ![v1155.toNat, 0]
def k0_off29 (d0 : Dev nD) (c1_i32_643 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v883 : BitVec 32 := Scalar.addi v2 c1_i32_643
  let c8_i32_644 : BitVec 32 := 8#32
  let c0_i32_645 : BitVec 32 := 0#32
  let v884 : BitVec 1 := Scalar.cmpi .eq c8_i32_644 c0_i32_645
  let c1_i32_646 : BitVec 32 := 1#32
  let v885 : BitVec 32 := Scalar.select v884 c1_i32_646 c8_i32_644
  let v886 : BitVec 32 := Scalar.remsi v883 v885
  let c0_i32_648 : BitVec 32 := 0#32
  let v888 : BitVec 1 := Scalar.cmpi .slt v886 c0_i32_648
  let c0_i32_649 : BitVec 32 := 0#32
  let v889 : BitVec 1 := Scalar.cmpi .slt v885 c0_i32_649
  let v890 : BitVec 1 := Scalar.xori v888 v889
  let c0_i32_647 : BitVec 32 := 0#32
  let v887 : BitVec 1 := Scalar.cmpi .ne v886 c0_i32_647
  let v891 : BitVec 1 := Scalar.andi v890 v887
  let v892 : BitVec 32 := Scalar.addi v886 v885
  let v893 : BitVec 32 := Scalar.select v891 v892 v886
  ![v893.toNat]
def k0_off30 (d0 : Dev nD) (c1_i32_643 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v883 : BitVec 32 := Scalar.addi v2 c1_i32_643
  let c8_i32_644 : BitVec 32 := 8#32
  let c0_i32_645 : BitVec 32 := 0#32
  let v884 : BitVec 1 := Scalar.cmpi .eq c8_i32_644 c0_i32_645
  let c1_i32_646 : BitVec 32 := 1#32
  let v885 : BitVec 32 := Scalar.select v884 c1_i32_646 c8_i32_644
  let v886 : BitVec 32 := Scalar.remsi v883 v885
  let c0_i32_648 : BitVec 32 := 0#32
  let v888 : BitVec 1 := Scalar.cmpi .slt v886 c0_i32_648
  let c0_i32_649 : BitVec 32 := 0#32
  let v889 : BitVec 1 := Scalar.cmpi .slt v885 c0_i32_649
  let v890 : BitVec 1 := Scalar.xori v888 v889
  let c0_i32_647 : BitVec 32 := 0#32
  let v887 : BitVec 1 := Scalar.cmpi .ne v886 c0_i32_647
  let v891 : BitVec 1 := Scalar.andi v890 v887
  let v892 : BitVec 32 := Scalar.addi v886 v885
  let v893 : BitVec 32 := Scalar.select v891 v892 v886
  let c512_i32_650 : BitVec 32 := 512#32
  let v894 : BitVec 32 := Scalar.muli v893 c512_i32_650
  let c0_i32_655 : BitVec 32 := 0#32
  ![v894.toNat, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_748 : BitVec 32 := 0#32
  let v1016 : BitVec 32 := Scalar.addi v12 c0_i32_748
  let c4_i32_749 : BitVec 32 := 4#32
  let c0_i32_750 : BitVec 32 := 0#32
  let v1017 : BitVec 1 := Scalar.cmpi .eq c4_i32_749 c0_i32_750
  let c1_i32_751 : BitVec 32 := 1#32
  let v1018 : BitVec 32 := Scalar.select v1017 c1_i32_751 c4_i32_749
  let v1019 : BitVec 32 := Scalar.remsi v1016 v1018
  let c0_i32_753 : BitVec 32 := 0#32
  let v1021 : BitVec 1 := Scalar.cmpi .slt v1019 c0_i32_753
  let c0_i32_754 : BitVec 32 := 0#32
  let v1022 : BitVec 1 := Scalar.cmpi .slt v1018 c0_i32_754
  let v1023 : BitVec 1 := Scalar.xori v1021 v1022
  let c0_i32_752 : BitVec 32 := 0#32
  let v1020 : BitVec 1 := Scalar.cmpi .ne v1019 c0_i32_752
  let v1024 : BitVec 1 := Scalar.andi v1023 v1020
  let v1025 : BitVec 32 := Scalar.addi v1019 v1018
  let v1026 : BitVec 32 := Scalar.select v1024 v1025 v1019
  let c2_i32_755 : BitVec 32 := 2#32
  let v1027 : BitVec 32 := Scalar.muli v1026 c2_i32_755
  let c0_i32_756 : BitVec 32 := 0#32
  let v1028 : BitVec 32 := Scalar.addi v1027 c0_i32_756
  let v1030 : BitVec 1 := Scalar.cmpi .ne v1028 v2
  let v1031 : BitVec 32 := Scalar.extui v1030
  let c0_i32_760 : BitVec 32 := 0#32
  let v1032 : BitVec 1 := Scalar.cmpi .ne v1031 c0_i32_760
  v1032

def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_757 : BitVec 32 := 512#32
  let v1029 : BitVec 32 := Scalar.muli v2 c512_i32_757
  let c0_i32_855 : BitVec 32 := 0#32
  ![v1029.toNat, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_761 : BitVec 32 := 0#32
  let v1033 : BitVec 32 := Scalar.addi v12 c0_i32_761
  let c4_i32_762 : BitVec 32 := 4#32
  let c0_i32_763 : BitVec 32 := 0#32
  let v1034 : BitVec 1 := Scalar.cmpi .eq c4_i32_762 c0_i32_763
  let c1_i32_764 : BitVec 32 := 1#32
  let v1035 : BitVec 32 := Scalar.select v1034 c1_i32_764 c4_i32_762
  let v1036 : BitVec 32 := Scalar.remsi v1033 v1035
  let c0_i32_766 : BitVec 32 := 0#32
  let v1038 : BitVec 1 := Scalar.cmpi .slt v1036 c0_i32_766
  let c0_i32_767 : BitVec 32 := 0#32
  let v1039 : BitVec 1 := Scalar.cmpi .slt v1035 c0_i32_767
  let v1040 : BitVec 1 := Scalar.xori v1038 v1039
  let c0_i32_765 : BitVec 32 := 0#32
  let v1037 : BitVec 1 := Scalar.cmpi .ne v1036 c0_i32_765
  let v1041 : BitVec 1 := Scalar.andi v1040 v1037
  let v1042 : BitVec 32 := Scalar.addi v1036 v1035
  let v1043 : BitVec 32 := Scalar.select v1041 v1042 v1036
  let c2_i32_768 : BitVec 32 := 2#32
  let v1044 : BitVec 32 := Scalar.muli v1043 c2_i32_768
  let c1_i32_769 : BitVec 32 := 1#32
  let v1045 : BitVec 32 := Scalar.addi v1044 c1_i32_769
  let v1047 : BitVec 1 := Scalar.cmpi .ne v1045 v2
  let v1048 : BitVec 32 := Scalar.extui v1047
  let c0_i32_773 : BitVec 32 := 0#32
  let v1049 : BitVec 1 := Scalar.cmpi .ne v1048 c0_i32_773
  v1049

def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_770 : BitVec 32 := 512#32
  let v1046 : BitVec 32 := Scalar.muli v2 c512_i32_770
  let c0_i32_855 : BitVec 32 := 0#32
  ![v1046.toNat, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_774 : BitVec 32 := 1#32
  let v1050 : BitVec 32 := Scalar.addi v12 c1_i32_774
  let c4_i32_775 : BitVec 32 := 4#32
  let c0_i32_776 : BitVec 32 := 0#32
  let v1051 : BitVec 1 := Scalar.cmpi .eq c4_i32_775 c0_i32_776
  let c1_i32_777 : BitVec 32 := 1#32
  let v1052 : BitVec 32 := Scalar.select v1051 c1_i32_777 c4_i32_775
  let v1053 : BitVec 32 := Scalar.remsi v1050 v1052
  let c0_i32_779 : BitVec 32 := 0#32
  let v1055 : BitVec 1 := Scalar.cmpi .slt v1053 c0_i32_779
  let c0_i32_780 : BitVec 32 := 0#32
  let v1056 : BitVec 1 := Scalar.cmpi .slt v1052 c0_i32_780
  let v1057 : BitVec 1 := Scalar.xori v1055 v1056
  let c0_i32_778 : BitVec 32 := 0#32
  let v1054 : BitVec 1 := Scalar.cmpi .ne v1053 c0_i32_778
  let v1058 : BitVec 1 := Scalar.andi v1057 v1054
  let v1059 : BitVec 32 := Scalar.addi v1053 v1052
  let v1060 : BitVec 32 := Scalar.select v1058 v1059 v1053
  let c2_i32_781 : BitVec 32 := 2#32
  let v1061 : BitVec 32 := Scalar.muli v1060 c2_i32_781
  let c0_i32_782 : BitVec 32 := 0#32
  let v1062 : BitVec 32 := Scalar.addi v1061 c0_i32_782
  let v1064 : BitVec 1 := Scalar.cmpi .ne v1062 v2
  let v1065 : BitVec 32 := Scalar.extui v1064
  let c0_i32_786 : BitVec 32 := 0#32
  let v1066 : BitVec 1 := Scalar.cmpi .ne v1065 c0_i32_786
  v1066

def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_783 : BitVec 32 := 512#32
  let v1063 : BitVec 32 := Scalar.muli v2 c512_i32_783
  let c0_i32_855 : BitVec 32 := 0#32
  ![v1063.toNat, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_787 : BitVec 32 := 1#32
  let v1067 : BitVec 32 := Scalar.addi v12 c1_i32_787
  let c4_i32_788 : BitVec 32 := 4#32
  let c0_i32_789 : BitVec 32 := 0#32
  let v1068 : BitVec 1 := Scalar.cmpi .eq c4_i32_788 c0_i32_789
  let c1_i32_790 : BitVec 32 := 1#32
  let v1069 : BitVec 32 := Scalar.select v1068 c1_i32_790 c4_i32_788
  let v1070 : BitVec 32 := Scalar.remsi v1067 v1069
  let c0_i32_792 : BitVec 32 := 0#32
  let v1072 : BitVec 1 := Scalar.cmpi .slt v1070 c0_i32_792
  let c0_i32_793 : BitVec 32 := 0#32
  let v1073 : BitVec 1 := Scalar.cmpi .slt v1069 c0_i32_793
  let v1074 : BitVec 1 := Scalar.xori v1072 v1073
  let c0_i32_791 : BitVec 32 := 0#32
  let v1071 : BitVec 1 := Scalar.cmpi .ne v1070 c0_i32_791
  let v1075 : BitVec 1 := Scalar.andi v1074 v1071
  let v1076 : BitVec 32 := Scalar.addi v1070 v1069
  let v1077 : BitVec 32 := Scalar.select v1075 v1076 v1070
  let c2_i32_794 : BitVec 32 := 2#32
  let v1078 : BitVec 32 := Scalar.muli v1077 c2_i32_794
  let c1_i32_795 : BitVec 32 := 1#32
  let v1079 : BitVec 32 := Scalar.addi v1078 c1_i32_795
  let v1081 : BitVec 1 := Scalar.cmpi .ne v1079 v2
  let v1082 : BitVec 32 := Scalar.extui v1081
  let c0_i32_799 : BitVec 32 := 0#32
  let v1083 : BitVec 1 := Scalar.cmpi .ne v1082 c0_i32_799
  v1083

def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_796 : BitVec 32 := 512#32
  let v1080 : BitVec 32 := Scalar.muli v2 c512_i32_796
  let c0_i32_855 : BitVec 32 := 0#32
  ![v1080.toNat, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_800 : BitVec 32 := 2#32
  let v1084 : BitVec 32 := Scalar.addi v12 c2_i32_800
  let c4_i32_801 : BitVec 32 := 4#32
  let c0_i32_802 : BitVec 32 := 0#32
  let v1085 : BitVec 1 := Scalar.cmpi .eq c4_i32_801 c0_i32_802
  let c1_i32_803 : BitVec 32 := 1#32
  let v1086 : BitVec 32 := Scalar.select v1085 c1_i32_803 c4_i32_801
  let v1087 : BitVec 32 := Scalar.remsi v1084 v1086
  let c0_i32_805 : BitVec 32 := 0#32
  let v1089 : BitVec 1 := Scalar.cmpi .slt v1087 c0_i32_805
  let c0_i32_806 : BitVec 32 := 0#32
  let v1090 : BitVec 1 := Scalar.cmpi .slt v1086 c0_i32_806
  let v1091 : BitVec 1 := Scalar.xori v1089 v1090
  let c0_i32_804 : BitVec 32 := 0#32
  let v1088 : BitVec 1 := Scalar.cmpi .ne v1087 c0_i32_804
  let v1092 : BitVec 1 := Scalar.andi v1091 v1088
  let v1093 : BitVec 32 := Scalar.addi v1087 v1086
  let v1094 : BitVec 32 := Scalar.select v1092 v1093 v1087
  let c2_i32_807 : BitVec 32 := 2#32
  let v1095 : BitVec 32 := Scalar.muli v1094 c2_i32_807
  let c0_i32_808 : BitVec 32 := 0#32
  let v1096 : BitVec 32 := Scalar.addi v1095 c0_i32_808
  let v1098 : BitVec 1 := Scalar.cmpi .ne v1096 v2
  let v1099 : BitVec 32 := Scalar.extui v1098
  let c0_i32_812 : BitVec 32 := 0#32
  let v1100 : BitVec 1 := Scalar.cmpi .ne v1099 c0_i32_812
  v1100

def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_809 : BitVec 32 := 512#32
  let v1097 : BitVec 32 := Scalar.muli v2 c512_i32_809
  let c0_i32_855 : BitVec 32 := 0#32
  ![v1097.toNat, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_813 : BitVec 32 := 2#32
  let v1101 : BitVec 32 := Scalar.addi v12 c2_i32_813
  let c4_i32_814 : BitVec 32 := 4#32
  let c0_i32_815 : BitVec 32 := 0#32
  let v1102 : BitVec 1 := Scalar.cmpi .eq c4_i32_814 c0_i32_815
  let c1_i32_816 : BitVec 32 := 1#32
  let v1103 : BitVec 32 := Scalar.select v1102 c1_i32_816 c4_i32_814
  let v1104 : BitVec 32 := Scalar.remsi v1101 v1103
  let c0_i32_818 : BitVec 32 := 0#32
  let v1106 : BitVec 1 := Scalar.cmpi .slt v1104 c0_i32_818
  let c0_i32_819 : BitVec 32 := 0#32
  let v1107 : BitVec 1 := Scalar.cmpi .slt v1103 c0_i32_819
  let v1108 : BitVec 1 := Scalar.xori v1106 v1107
  let c0_i32_817 : BitVec 32 := 0#32
  let v1105 : BitVec 1 := Scalar.cmpi .ne v1104 c0_i32_817
  let v1109 : BitVec 1 := Scalar.andi v1108 v1105
  let v1110 : BitVec 32 := Scalar.addi v1104 v1103
  let v1111 : BitVec 32 := Scalar.select v1109 v1110 v1104
  let c2_i32_820 : BitVec 32 := 2#32
  let v1112 : BitVec 32 := Scalar.muli v1111 c2_i32_820
  let c1_i32_821 : BitVec 32 := 1#32
  let v1113 : BitVec 32 := Scalar.addi v1112 c1_i32_821
  let v1115 : BitVec 1 := Scalar.cmpi .ne v1113 v2
  let v1116 : BitVec 32 := Scalar.extui v1115
  let c0_i32_825 : BitVec 32 := 0#32
  let v1117 : BitVec 1 := Scalar.cmpi .ne v1116 c0_i32_825
  v1117

def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_822 : BitVec 32 := 512#32
  let v1114 : BitVec 32 := Scalar.muli v2 c512_i32_822
  let c0_i32_855 : BitVec 32 := 0#32
  ![v1114.toNat, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_826 : BitVec 32 := 3#32
  let v1118 : BitVec 32 := Scalar.addi v12 c3_i32_826
  let c4_i32_827 : BitVec 32 := 4#32
  let c0_i32_828 : BitVec 32 := 0#32
  let v1119 : BitVec 1 := Scalar.cmpi .eq c4_i32_827 c0_i32_828
  let c1_i32_829 : BitVec 32 := 1#32
  let v1120 : BitVec 32 := Scalar.select v1119 c1_i32_829 c4_i32_827
  let v1121 : BitVec 32 := Scalar.remsi v1118 v1120
  let c0_i32_831 : BitVec 32 := 0#32
  let v1123 : BitVec 1 := Scalar.cmpi .slt v1121 c0_i32_831
  let c0_i32_832 : BitVec 32 := 0#32
  let v1124 : BitVec 1 := Scalar.cmpi .slt v1120 c0_i32_832
  let v1125 : BitVec 1 := Scalar.xori v1123 v1124
  let c0_i32_830 : BitVec 32 := 0#32
  let v1122 : BitVec 1 := Scalar.cmpi .ne v1121 c0_i32_830
  let v1126 : BitVec 1 := Scalar.andi v1125 v1122
  let v1127 : BitVec 32 := Scalar.addi v1121 v1120
  let v1128 : BitVec 32 := Scalar.select v1126 v1127 v1121
  let c2_i32_833 : BitVec 32 := 2#32
  let v1129 : BitVec 32 := Scalar.muli v1128 c2_i32_833
  let c0_i32_834 : BitVec 32 := 0#32
  let v1130 : BitVec 32 := Scalar.addi v1129 c0_i32_834
  let v1132 : BitVec 1 := Scalar.cmpi .ne v1130 v2
  let v1133 : BitVec 32 := Scalar.extui v1132
  let c0_i32_838 : BitVec 32 := 0#32
  let v1134 : BitVec 1 := Scalar.cmpi .ne v1133 c0_i32_838
  v1134

def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_835 : BitVec 32 := 512#32
  let v1131 : BitVec 32 := Scalar.muli v2 c512_i32_835
  let c0_i32_855 : BitVec 32 := 0#32
  ![v1131.toNat, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_839 : BitVec 32 := 3#32
  let v1135 : BitVec 32 := Scalar.addi v12 c3_i32_839
  let c4_i32_840 : BitVec 32 := 4#32
  let c0_i32_841 : BitVec 32 := 0#32
  let v1136 : BitVec 1 := Scalar.cmpi .eq c4_i32_840 c0_i32_841
  let c1_i32_842 : BitVec 32 := 1#32
  let v1137 : BitVec 32 := Scalar.select v1136 c1_i32_842 c4_i32_840
  let v1138 : BitVec 32 := Scalar.remsi v1135 v1137
  let c0_i32_844 : BitVec 32 := 0#32
  let v1140 : BitVec 1 := Scalar.cmpi .slt v1138 c0_i32_844
  let c0_i32_845 : BitVec 32 := 0#32
  let v1141 : BitVec 1 := Scalar.cmpi .slt v1137 c0_i32_845
  let v1142 : BitVec 1 := Scalar.xori v1140 v1141
  let c0_i32_843 : BitVec 32 := 0#32
  let v1139 : BitVec 1 := Scalar.cmpi .ne v1138 c0_i32_843
  let v1143 : BitVec 1 := Scalar.andi v1142 v1139
  let v1144 : BitVec 32 := Scalar.addi v1138 v1137
  let v1145 : BitVec 32 := Scalar.select v1143 v1144 v1138
  let c2_i32_846 : BitVec 32 := 2#32
  let v1146 : BitVec 32 := Scalar.muli v1145 c2_i32_846
  let c1_i32_847 : BitVec 32 := 1#32
  let v1147 : BitVec 32 := Scalar.addi v1146 c1_i32_847
  let v1149 : BitVec 1 := Scalar.cmpi .ne v1147 v2
  let v1150 : BitVec 32 := Scalar.extui v1149
  let c0_i32_851 : BitVec 32 := 0#32
  let v1151 : BitVec 1 := Scalar.cmpi .ne v1150 c0_i32_851
  v1151

def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_848 : BitVec 32 := 512#32
  let v1148 : BitVec 32 := Scalar.muli v2 c512_i32_848
  let c0_i32_855 : BitVec 32 := 0#32
  ![v1148.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Sched.lean ====
/-
The kernel's protocol: eight devices, each computing the row block of `x` it holds against all eight column blocks
of `w`, and sending block `t` of its answer to device `t`.

This module names the memrefs, the semaphore cells and what they carry: the values every transfer moves (as a function
of the memory at launch), the schedule of signals and transfers, what each device owes at launch and the levels its
waits are ordered by.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the kernel's rounds (duties named by a device), the local copies' counters -/

/-- The rounds, with duties named by a device. -/
abbrev UB : Type := URounds (GSem nD τ sig) (Dev nD)
/-- The three resources side by side. -/
abbrev UU : Type := UR sig nD τ × (UB × Counters)

local notation "𝕄" => MT nD τ sig Unit (Elt F) ℕ UU ℕ

/-- The pipeline's rounds: the left factor. -/
abbrev EP : Emb (UR sig nD τ) (MT nD τ sig Unit (Elt F) ℕ UU ℕ) := embL
/-- The kernel's rounds: the left half of the right factor. -/
abbrev ER : Emb UB (MT nD τ sig Unit (Elt F) ℕ UU ℕ) := (Emb.inl : Emb UB (UB × Counters)).trans embR
/-- The local copies' counters: the right half of the right factor. -/
abbrev EC : UEmb Counters (MT nD τ sig Unit (Elt F) ℕ UU ℕ) := countersEmb

/-- No variants are needed. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs -/

/-- The rows of `x`, -/
abbrev xH : Memref sig .tc .hbm S512x4096 .f32 := Memref.whole main_arg0
/-- the weights, -/
abbrev wH : Memref sig .tc .hbm S4096x2048 .f32 := Memref.whole main_arg1
/-- the first scale as staged, -/
abbrev sxM : Memref sig .tc .smem S1 .f32 := Memref.whole cc0_stg0_0
/-- the second, -/
abbrev swM : Memref sig .tc .smem S1 .f32 := Memref.whole cc0_stg1_0
/-- the output's staging buffer, -/
abbrev oM : Memref sig .tc .vmem S4096x256 .bf16 := Memref.whole cc0_stg2_0
/-- the buffer of `x`, -/
abbrev xM : Memref sig .tc .vmem S512x4096 .f32 := Memref.whole cc0_scratch0
/-- the eight weight buffers, -/
abbrev wM : Memref sig .tc .vmem S8x1024x512 .f32 := Memref.whole cc0_scratch1
/-- and the eight result slots. -/
abbrev yM : Memref sig .tc .vmem S8x512x256 .bf16 := Memref.whole cc0_scratch2

/-- A weight slot lies in its buffer, -/
theorem wInb (k : Fin 8) : ∀ a, (![k.val, 0, 0] : Fin 3 → ℕ) a + S1x1024x512.size a ≤ S8x1024x512.size a := by revert k; decide
/-- a result slot in its own, -/
theorem yInb (k : Fin 8) : ∀ a, (![k.val, 0, 0] : Fin 3 → ℕ) a + S1x512x256.size a ≤ S8x512x256.size a := by revert k; decide
/-- and a row block in the output. -/
theorem oInb (j : Dev nD) : ∀ a, (![512 * j.val, 0] : Fin 2 → ℕ) a + S512x256.size a ≤ S4096x256.size a := by revert j; decide

/-- Slot `k` of the weight buffer, slot `k` of the result buffer, and row block `j` of the output. -/
abbrev wRect (k : Fin 8) : Rect S8x1024x512 := Rect.unit (s := S8x1024x512) ![k.val, 0, 0] S1x1024x512.size (wInb k)
/-- Slot `k` of the result buffer. -/
abbrev yRect (k : Fin 8) : Rect S8x512x256 := Rect.unit (s := S8x512x256) ![k.val, 0, 0] S1x512x256.size (yInb k)
/-- Row block `j` of the output. -/
abbrev oRect (j : Dev nD) : Rect S4096x256 := Rect.unit (s := S4096x256) ![512 * j.val, 0] S512x256.size (oInb j)
/-- A weight slot as a matrix. -/
abbrev wSlot (k : Fin 8) : Memref sig .tc .vmem S1024x512 .f32 :=
  (wM.slice (wRect k) (fun _ => rfl)).squeeze S1024x512 squeezes_S1x1024x512_S1024x512
/-- A result slot as a matrix. -/
abbrev ySlot (k : Fin 8) : Memref sig .tc .vmem S512x256 .bf16 :=
  (yM.slice (yRect k) (fun _ => rfl)).squeeze S512x256 squeezes_S1x512x256_S512x256
/-- Device `j`'s rows of an output. -/
abbrev rowsM (j : Dev nD) : Memref sig .tc .vmem S512x256 .bf16 := oM.slice (oRect j) (fun _ => rfl)

/-- Where weight chunk `q` of device `c` lies: pass `q / 4` takes column group `(c mod 4 + q / 4) mod 4`, chunk `q mod 4` its rows. -/
def wOff (c : Dev nD) (q : Fin 16) : Fin 2 → ℕ := ![1024 * (q.val % 4), 512 * ((c.val % 4 + q.val / 4) % 4)]
/-- A chunk lies in the weights. -/
theorem wOff_inb (c : Dev nD) (q : Fin 16) : ∀ a, wOff c q a + S1024x512.size a ≤ S4096x2048.size a := by revert c q; decide +kernel
/-- Chunk `q` of the weights, as device `c` takes them. -/
abbrev wSrc (c : Dev nD) (q : Fin 16) : Memref sig .tc .hbm S1024x512 .f32 :=
  wH.slice (Rect.unit (s := S4096x2048) (wOff c q) S1024x512.size (wOff_inb c q)) (fun _ => rfl)

/-! ## The semaphores -/

/-- The barrier, -/
abbrev barS : Sem sig := (SemArray.scalar (sig.barrier 0 rfl) : Sems sig S_).sem
/-- the semaphore of the copy of `x`, -/
abbrev xS : DmaSem sig := (cc0_scratch3 : DmaSems sig S_).sem
/-- those of the weight copies, -/
abbrev copyS (k : Fin 8) : DmaSem sig := ⟨4 + k.val, by show 4 + k.val < 28; omega⟩
/-- of the sends, -/
abbrev sendS (k : Fin 8) : DmaSem sig := ⟨12 + k.val, by show 12 + k.val < 28; omega⟩
/-- and of the receipts, one for each sender. -/
abbrev recvS (j : Dev nD) : DmaSem sig := ⟨20 + j.val, by show 20 + j.val < 28; have h : j.val < 8 := j.isLt; omega⟩

/-- Device `c`'s barrier, -/
abbrev barCell (c : Dev nD) : GSem nD τ sig := ((c : Thread nD τ), .reg barS)
/-- its send cell of slot `k`, -/
abbrev sendCell (c : Dev nD) (k : Fin 8) : GSem nD τ sig := ((c : Thread nD τ), .dma (sendS k))
/-- and its receive cell for device `j`'s block. -/
abbrev recvCell (c : Dev nD) (j : Dev nD) : GSem nD τ sig := ((c : Thread nD τ), .dma (recvS j))

/-- The shared cells of a device: its barrier, then its eight send and its eight receive semaphores. -/
abbrev KIx : Type := Unit ⊕ (Fin 8 ⊕ Dev nD)
/-- The semaphore that an index names. -/
abbrev csem : KIx → SemLoc sig := fun | .inl _ => .reg barS | .inr (.inl k) => .dma (sendS k) | .inr (.inr j) => .dma (recvS j)
/-- The cell that a device and an index name. -/
abbrev kcell (ck : Dev nD × KIx) : GSem nD τ sig := ((ck.1 : Thread nD τ), csem ck.2)

/-- The credit of one block of the output, and of one weight chunk. -/
abbrev N : ℕ := (rowsM 0).view.dmaCredit
/-- A block is not empty. -/
theorem N_pos : 0 < N := View.dmaCredit_pos _ (by decide)
/-- A weight chunk's credit. -/
abbrev NW : ℕ := (wSlot 0).view.dmaCredit
/-- A chunk is not empty. -/
theorem NW_pos : 0 < NW := View.dmaCredit_pos _ (by decide)
/-- The credit of the rows of `x`. -/
abbrev NX : ℕ := xM.view.dmaCredit
/-- They are not empty. -/
theorem NX_pos : 0 < NX := View.dmaCredit_pos _ (by decide)

/-! ## Which device each slot is for -/

/-- Slot `k` of device `c` is for device `tgt c k`: its pass's column group, halved. -/
def tgt (c : Dev nD) (k : Fin 8) : Dev nD := ⟨((c.val % 4 + k.val / 2) % 4) * 2 + k.val % 2, by show _ < 8; omega⟩
/-- The slot of device `c` that is for device `t`. -/
def slotOf (c t : Dev nD) : Fin 8 := ⟨((t.val / 2 + 4 - c.val % 4) % 4) * 2 + t.val % 2, by omega⟩

/-- The slot for a device is for that device, -/
theorem tgt_slotOf (c t : Dev nD) : tgt c (slotOf c t) = t := by revert c t; decide +kernel
/-- and a slot is the one for its device: -/
theorem slotOf_tgt (c : Dev nD) (k : Fin 8) : slotOf c (tgt c k) = k := by revert c k; decide +kernel
/-- slots and devices correspond. -/
def slots (c : Dev nD) : Fin 8 ≃ Dev nD := ⟨tgt c, slotOf c, slotOf_tgt c, tgt_slotOf c⟩

/-! ## Contents -/

/-- The scalar block of a scale, as the launch stages it. -/
def sxStg (c : Dev nD) : (cc0_stg0_0 : Ref sig .tc).ty.Contents (Elt F) :=
  (win0_0.blk (0 : Fin 1)).view.read (Elt F) ((s₀ m ρ).mem ((c : Thread nD τ).loc main_arg2))
/-- The second scale, likewise. -/
def swStg (c : Dev nD) : (cc0_stg1_0 : Ref sig .tc).ty.Contents (Elt F) :=
  (win0_1.blk (0 : Fin 1)).view.read (Elt F) ((s₀ m ρ).mem ((c : Thread nD τ).loc main_arg3))

/-- The one entry of a scale. -/
abbrev sRect : Rect S1 := Rect.unit (s := S1) ![0] S1.size inb_S1_S1_0
/-- There is one. -/
theorem sPos : 0 < sRect.shape.numel := by decide
/-- The first scale as the kernel reads it, -/
def sxVal (c : Dev nD) : F .f32 := (sxM.access sRect).read (Elt F) (sxStg m ρ c) (Shape.Idx.first sPos)
/-- and the second. -/
def swVal (c : Dev nD) : F .f32 := (swM.access sRect).read (Elt F) (swStg m ρ c) (Shape.Idx.first sPos)

/-- The product of the two scales; the row block of `x` rounded to the narrow format; weight chunk `q`. -/
def scaleVal (c : Dev nD) : F .f32 := k0_pay1 (sxVal m ρ c) (swVal m ρ c)
/-- The rows of `x` of a device. -/
def xBlk (c : Dev nD) : Vec F S512x4096 .f32 := m ((c : Thread nD τ).loc main_arg0)
/-- These rows, rounded. -/
def xqVal (c : Dev nD) : FVec F S512x4096 .fp8e4m3 := k0_pay2 (xBlk m c)
/-- Weight chunk `q` as device `c` takes it. -/
def wChunk (c : Dev nD) (q : Fin 16) : Vec F S1024x512 .f32 := (wSrc c q).view.read (Elt F) (m ((c : Thread nD τ).loc main_arg1))

/-- The four products of a pass, one per chunk of the contraction. -/
def prod0 (xq : FVec F S512x4096 .fp8e4m3) (w : Vec F S1024x512 .f32) : FVec F S512x512 .f32 :=
  matmul dot_S512x1024_S1024x512_S512x512_1_0_0_1_n_n none (extractStridedSlice S512x1024 ![0, 0] xq slices_S512x4096_o0_0_S512x1024)
    (truncf .fp8e5m2 w bitsLt_fp8e5m2_f32) (constant S512x512 .f32 0x00000000#32)
/-- The second product, -/
def prod1 (xq : FVec F S512x4096 .fp8e4m3) (w : Vec F S1024x512 .f32) : FVec F S512x512 .f32 :=
  matmul dot_S512x1024_S1024x512_S512x512_1_0_0_1_n_n none (extractStridedSlice S512x1024 ![0, 1024] xq slices_S512x4096_o0_1024_S512x1024)
    (truncf .fp8e5m2 w bitsLt_fp8e5m2_f32) (constant S512x512 .f32 0x00000000#32)
/-- the third, -/
def prod2 (xq : FVec F S512x4096 .fp8e4m3) (w : Vec F S1024x512 .f32) : FVec F S512x512 .f32 :=
  matmul dot_S512x1024_S1024x512_S512x512_1_0_0_1_n_n none (extractStridedSlice S512x1024 ![0, 2048] xq slices_S512x4096_o0_2048_S512x1024)
    (truncf .fp8e5m2 w bitsLt_fp8e5m2_f32) (constant S512x512 .f32 0x00000000#32)
/-- and the fourth. -/
def prod3 (xq : FVec F S512x4096 .fp8e4m3) (w : Vec F S1024x512 .f32) : FVec F S512x512 .f32 :=
  matmul dot_S512x1024_S1024x512_S512x512_1_0_0_1_n_n none (extractStridedSlice S512x1024 ![0, 3072] xq slices_S512x4096_o0_3072_S512x1024)
    (truncf .fp8e5m2 w bitsLt_fp8e5m2_f32) (constant S512x512 .f32 0x00000000#32)

/-- The running sums of pass `p` of device `c`. -/
def acc0 (c : Dev nD) (q : Fin 16) : FVec F S512x512 .f32 := prod0 (xqVal m c) (wChunk m c q)
/-- Two chunks added, -/
def acc1 (c : Dev nD) (q q' : Fin 16) : FVec F S512x512 .f32 := addf (acc0 m c q) (prod1 (xqVal m c) (wChunk m c q'))
/-- three, -/
def acc2 (c : Dev nD) (q q' q'' : Fin 16) : FVec F S512x512 .f32 := addf (acc1 m c q q') (prod2 (xqVal m c) (wChunk m c q''))
/-- and all four. -/
def acc3 (c : Dev nD) (q q' q'' q''' : Fin 16) : FVec F S512x512 .f32 := addf (acc2 m c q q' q'') (prod3 (xqVal m c) (wChunk m c q'''))

/-- Scaled, rectified and rounded to the result format. -/
def finish (s : F .f32) (a : FVec F S512x512 .f32) : FVec F S512x512 .bf16 :=
  truncf .bf16 (maximumf (mulf a (broadcast S512x512 s)) (broadcast S512x512 (Scalar.ofBits .f32 0x00000000#32))) bitsLt_bf16_f32
/-- The answer of pass `p`: 512 rows against 512 columns. -/
def tile (c : Dev nD) : Fin 4 → FVec F S512x512 .bf16
  | 0 => finish (scaleVal m ρ c) (acc3 m c 0 1 2 3)
  | 1 => finish (scaleVal m ρ c) (acc3 m c 4 5 6 7)
  | 2 => finish (scaleVal m ρ c) (acc3 m c 8 9 10 11)
  | 3 => finish (scaleVal m ρ c) (acc3 m c 12 13 14 15)
/-- A tile's left half, -/
def lo (y : FVec F S512x512 .bf16) : FVec F S512x256 .bf16 := extractStridedSlice S512x256 ![0, 0] y slices_S512x512_o0_0_S512x256
/-- and its right half. -/
def hi (y : FVec F S512x512 .bf16) : FVec F S512x256 .bf16 := extractStridedSlice S512x256 ![0, 256] y slices_S512x512_o0_256_S512x256
/-- What device `c` puts in its slot `k`: a half of its pass's answer. -/
def yv (c : Dev nD) : Fin 8 → FVec F S512x256 .bf16
  | 0 => lo (tile m ρ c 0)
  | 1 => hi (tile m ρ c 0)
  | 2 => lo (tile m ρ c 1)
  | 3 => hi (tile m ρ c 1)
  | 4 => lo (tile m ρ c 2)
  | 5 => hi (tile m ρ c 2)
  | 6 => lo (tile m ρ c 3)
  | 7 => hi (tile m ρ c 3)
/-- Row block `j` of device `t`'s output: what device `j` computed for `t`. -/
def blk (j t : Dev nD) : FVec F S512x256 .bf16 := yv m ρ j (slotOf j t)
/-- The block for the device of slot `k` is what slot `k` holds. -/
theorem blk_tgt (c : Dev nD) (k : Fin 8) : blk m ρ c (tgt c k) = yv m ρ c k := by unfold blk; rw [slotOf_tgt]

/-- The output of device `c`, whole: row block by row block. -/
def outAt (c : Dev nD) : (cc0_stg2_0 : Ref sig .tc).ty.Contents (Elt F) := fun i : S4096x256.Idx =>
  blk m ρ ⟨(i 0).val / 512, by have := (i 0).isLt; show _ < 8; have h : (i 0).val < 4096 := this; omega⟩ c
    (fun a => match a with
      | ⟨0, _⟩ => ⟨(i 0).val % 512, Nat.mod_lt _ (by decide)⟩
      | ⟨1, _⟩ => i 1)

/-! ## The schedule -/

/-- What device `d`'s signal hands `c`: row block `c` of `d`'s output. -/
def barPay (c d : Dev nD) : sProp 𝕄 := iprop(∃ X, owns (d : Thread nD τ) (rowsM c) fullShare X)
/-- What the landing of device `j`'s block hands `c`. -/
def recvPay (c j : Dev nD) : sProp 𝕄 := owns (c : Thread nD τ) (rowsM j) fullShare (blk m ρ j c)
/-- What the end of a send hands back: the slot. -/
def sendPay (c : Dev nD) (k : Fin 8) : sProp 𝕄 := iprop(∃ X, owns (c : Thread nD τ) (ySlot k) fullShare X)

omit [FloatOps F] in
/-- A signal's payload may be stored in a cell, -/
instance barPay_storable (c d : Dev nD) : BI.Storable (upEmb : UEmb _ 𝕄) (barPay (F := F) c d) := by unfold barPay owns; infer_instance
/-- so may a block's, -/
instance recvPay_storable (c j : Dev nD) : BI.Storable (upEmb : UEmb _ 𝕄) (recvPay (F := F) m ρ c j) := by unfold recvPay owns; infer_instance
omit [FloatOps F] in
/-- and a send's. -/
instance sendPay_storable (c : Dev nD) (k : Fin 8) : BI.Storable (upEmb : UEmb _ 𝕄) (sendPay (F := F) c k) := by unfold sendPay owns; infer_instance

/-- The slot, and the source device, a send or receive semaphore is for. -/
def slotNo (q : DmaSem sig) : Fin 8 := ⟨(q.val + 4) % 8, Nat.mod_lt _ (by decide)⟩
/-- The sender that a receive semaphore is for. -/
def devNo (q : DmaSem sig) : Dev nD := ⟨(q.val + 4) % 8, Nat.mod_lt _ (by decide)⟩
/-- A send semaphore's slot. -/
theorem slotNo_send (k : Fin 8) : slotNo (sendS k) = k := by revert k; decide
/-- A receive semaphore's sender. -/
theorem devNo_recv (j : Dev nD) : devNo (recvS j) = j := by revert j; decide

/-- One round: a barrier cell has a duty of one unit per device; a send cell whose slot is for another device, and a
    receive cell of another device's block, the one duty of the block's credit. -/
def dutiesOf (c : Dev nD) : SemLoc sig → Finset (Dev nD)
  | .reg _ => Finset.univ
  | .dma q => if q.val < 12 then ∅
      else if q.val < 20 then (if tgt c (slotNo q) = c then ∅ else {0})
      else (if devNo q = c then ∅ else {0})
/-- What a duty pays: one unit on the barrier, a block's credit elsewhere. -/
def amountOf' : SemLoc sig → ℕ
  | .reg _ => 1
  | .dma _ => N
/-- What a duty hands over. -/
def payloadOf (c : Dev nD) (d : Dev nD) : SemLoc sig → sProp 𝕄
  | .reg _ => barPay c d
  | .dma q => if q.val < 20 then sendPay c (slotNo q) else recvPay m ρ c (devNo q)
/-- The schedule: one round in each shared cell. -/
def Rd : Rounds.Schedule (GSem nD τ sig) (Dev nD) 𝕄 where
  duties g r := if r = 0 ∧ g.1.2 = .tc then dutiesOf g.1.1 g.2 else ∅
  unitless _ := False
  amount g _ _ := amountOf' g.2
  payload g _ d := payloadOf m ρ g.1.1 d g.2
  amount_pos g _ _ _ := by
    rcases g with ⟨t, sm | sm⟩
    · exact Nat.one_pos
    · exact N_pos

/-- Every payload may be stored. -/
instance Rd_storable (g : GSem nD τ sig) (r : ℕ) (d : Dev nD) : BI.Storable (upEmb : UEmb _ 𝕄) ((Rd (F := F) m ρ).payload g r d) := by
  show BI.Storable upEmb (payloadOf m ρ g.1.1 d g.2)
  rcases g with ⟨t, sm | sm⟩
  · show BI.Storable upEmb (barPay t.1 d); infer_instance
  · show BI.Storable upEmb (if sm.val < 20 then sendPay t.1 (slotNo sm) else recvPay m ρ t.1 (devNo sm))
    split <;> infer_instance

section Sched
variable (c : Dev nD)

/-- The first round's duties are the table's. -/
theorem duties_zero (sm : SemLoc sig) : (Rd (F := F) m ρ).duties ((c : Thread nD τ), sm) 0 = dutiesOf c sm := by
  unfold Rd; dsimp only; exact if_pos ⟨rfl, rfl⟩
/-- All eight devices signal a barrier. -/
theorem duties_bar : (Rd (F := F) m ρ).duties (barCell c) 0 = Finset.univ := by
  rw [duties_zero]; rfl
/-- A slot that is sent has one duty, a kept one none. -/
theorem duties_send (k : Fin 8) : (Rd (F := F) m ρ).duties (sendCell c k) 0 = if tgt c k = c then ∅ else {0} := by
  rw [duties_zero]
  show (if 12 + k.val < 12 then _ else if 12 + k.val < 20 then _ else _) = _
  rw [if_neg (by omega), if_pos (by omega)]
  exact congrArg (fun s => if tgt c s = c then (∅ : Finset (Dev nD)) else {0}) (slotNo_send k)
/-- Each other device lands one block. -/
theorem duties_recv (j : Dev nD) : (Rd (F := F) m ρ).duties (recvCell c j) 0 = if j = c then ∅ else {0} := by
  rw [duties_zero]
  show (if 20 + j.val < 12 then _ else if 20 + j.val < 20 then _ else _) = _
  rw [if_neg (by omega), if_neg (by omega)]
  exact congrArg (fun s => if s = c then (∅ : Finset (Dev nD)) else {0}) (devNo_recv j)
/-- There is no second round. -/
theorem duties_later (g : GSem nD τ sig) : ∀ r, 1 ≤ r → (Rd (F := F) m ρ).duties g r = ∅ :=
  fun r hr => if_neg fun h => by omega
/-- A signal is one unit. -/
theorem amount_bar (d : Dev nD) : (Rd (F := F) m ρ).amount (barCell c) 0 d = 1 := rfl
/-- A send gives back a block's credit. -/
theorem amount_send (k : Fin 8) (d : Dev nD) : (Rd (F := F) m ρ).amount (sendCell c k) 0 d = N := rfl
/-- A landing gives a block's credit. -/
theorem amount_recv (j d : Dev nD) : (Rd (F := F) m ρ).amount (recvCell c j) 0 d = N := rfl
/-- A signal hands over its payload, -/
theorem payload_bar (d : Dev nD) : (Rd (F := F) m ρ).payload (barCell c) 0 d = barPay c d := rfl
/-- a send its slot, -/
theorem payload_send (k : Fin 8) (d : Dev nD) : (Rd (F := F) m ρ).payload (sendCell c k) 0 d = sendPay c k := by
  show (if 12 + k.val < 20 then sendPay c (slotNo (sendS k)) else _) = _
  rw [if_pos (by omega), slotNo_send]
/-- a landing its block. -/
theorem payload_recv (j d : Dev nD) : (Rd (F := F) m ρ).payload (recvCell c j) 0 d = recvPay m ρ c j := by
  show (if 20 + j.val < 20 then _ else recvPay m ρ c (devNo (recvS j))) = _
  rw [if_neg (by omega), devNo_recv]

/-- A barrier waits for eight units, -/
theorem expect_bar : (Rd (F := F) m ρ).expect (barCell c) 0 = 8 := by
  unfold Schedule.expect Schedule.amountOf
  rw [duties_bar, Finset.sum_congr rfl fun d _ => amount_bar m ρ c d, Finset.sum_const, Finset.card_univ, smul_eq_mul, mul_one]; rfl
/-- a send for a block's credit, -/
theorem expect_send (k : Fin 8) (h : tgt c k ≠ c) : (Rd (F := F) m ρ).expect (sendCell c k) 0 = N := by
  unfold Schedule.expect Schedule.amountOf; rw [duties_send, if_neg h, Finset.sum_singleton, amount_send]
/-- and so does a receipt. -/
theorem expect_recv (j : Dev nD) (h : j ≠ c) : (Rd (F := F) m ρ).expect (recvCell c j) 0 = N := by
  unfold Schedule.expect Schedule.amountOf; rw [duties_recv, if_neg h, Finset.sum_singleton, amount_recv]

/-- A barrier's round gives the eight payloads, -/
theorem rest_bar : bigSep ((Rd (F := F) m ρ).duties (barCell c) 0 \ ∅) (fun d => (Rd (F := F) m ρ).payload (barCell c) 0 d)
    = bigSep Finset.univ fun d => barPay c d := by rw [Finset.sdiff_empty, duties_bar]; rfl
/-- a send's its slot, -/
theorem rest_send (k : Fin 8) (h : tgt c k ≠ c) :
    bigSep ((Rd (F := F) m ρ).duties (sendCell c k) 0 \ ∅) (fun d => (Rd (F := F) m ρ).payload (sendCell c k) 0 d) = sendPay c k := by
  rw [Finset.sdiff_empty, duties_send, if_neg h, bigSep_singleton, payload_send]
/-- a receipt's its block. -/
theorem rest_recv (j : Dev nD) (h : j ≠ c) :
    bigSep ((Rd (F := F) m ρ).duties (recvCell c j) 0 \ ∅) (fun d => (Rd (F := F) m ρ).payload (recvCell c j) 0 d) = recvPay m ρ c j := by
  rw [Finset.sdiff_empty, duties_recv, if_neg h, bigSep_singleton, payload_recv]

end Sched

/-! ## What each core owes at launch; the levels -/

/-- What slot `k` of device `c` owes its receiver: the block's credit, or nothing when the slot is `c`'s own. -/
def sendO (c : Dev nD) (k : Fin 8) : CellTallies nD τ sig Unit := if tgt c k = c then 0 else tallyAt (recvCell (tgt c k) c) () N
/-- What is owed when `n` slots are still to go (the last `n`, so that the next slot's is the last summand). -/
def Osl (c : Dev nD) : ℕ → CellTallies nD τ sig Unit
  | 0 => 0
  | n + 1 => Osl c n + sendO c ⟨7 - n, by omega⟩
/-- What is owed when `n` barrier signals are still to go, and all the slots. -/
def Obar (c : Dev nD) : ℕ → CellTallies nD τ sig Unit
  | 0 => Osl c 8
  | n + 1 => Obar c n + tallyAt (barCell ⟨7 - n, by show _ < 8; omega⟩) () 1
/-- What a device owes at the start: its eight signals and its seven sends. -/
def O₀ (c : Dev nD) : CellTallies nD τ sig Unit := Obar c 8

/-- Only the cells of a kernel thread carry a level. -/
def L (g : GSem nD τ sig) : Finset Unit := if g.1.2 = .tc then {()} else ∅
/-- Barrier cells at 1, receive cells at 2, everything else (staging, local copies, sends) at 0. -/
def lvSem : SemLoc sig → ℕ
  | .reg _ => 1
  | .dma q => if q.val < 20 then 0 else 2
/-- A cell's level is its semaphore's. -/
def lv (g : GSem nD τ sig) (_ : Unit) : ℕ := lvSem g.2

/-- Other threads carry none; -/
theorem L_of_ne (g : GSem nD τ sig) (h : g.1.2 ≠ .tc) : L g = ∅ := if_neg h
/-- these carry one. -/
theorem L_tc (c : Dev nD) (sm : SemLoc sig) : L ((c : Thread nD τ), sm) = {()} := if_pos rfl
/-- Receive cells are at level 2. -/
theorem lv_recv (c j : Dev nD) : lv (recvCell c j) () = 2 := by
  show (if 20 + j.val < 20 then 0 else 2) = 2; rw [if_neg (by omega)]

/-- A bound on everything a sum of tallies owes: cells of the TensorCores, at level `n` or above. -/
def Above (n : ℕ) (O : CellTallies nD τ sig Unit) : Prop := ∀ g u, 0 < O g u → u ∈ L g ∧ n ≤ lv g u
/-- Owing nothing is above any level. -/
theorem Above.zero (n : ℕ) : Above n 0 := fun g u h => absurd h (Nat.lt_irrefl 0)
/-- Two debts above a level are together above it. -/
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
/-- One debt is above its level. -/
theorem Above.tally {n : ℕ} {t : Dev nD} {sm : SemLoc sig} {k : ℕ} (h : n ≤ lvSem sm) : Above n (tallyAt ((t : Thread nD τ), sm) () k) := fun g u hg => by
  rw [tallyAt_apply] at hg
  by_cases hh : g = ((t : Thread nD τ), sm) ∧ u = ()
  · rw [hh.1, L_tc]; exact ⟨Finset.mem_singleton_self _, h⟩
  · rw [if_neg hh] at hg; exact absurd hg (Nat.lt_irrefl 0)
/-- A slot's debt is at level 2, -/
theorem above_sendO (c : Dev nD) (k : Fin 8) : Above 2 (sendO c k) := by
  unfold sendO; split
  · exact Above.zero _
  · exact Above.tally (sm := .dma (recvS c)) (lv_recv (tgt c k) c).ge
/-- and so are all the slots' together. -/
theorem above_Osl (c : Dev nD) : ∀ n, Above 2 (Osl c n)
  | 0 => Above.zero _
  | n + 1 => (above_Osl c n).add (above_sendO c _)
/-- Above a level is above a lower one. -/
theorem Above.mono {n n' : ℕ} (h : n ≤ n') {O : CellTallies nD τ sig Unit} (hO : Above n' O) : Above n O := fun g u hg =>
  ⟨(hO g u hg).1, h.trans (hO g u hg).2⟩
/-- With the signals the debt is at level 1. -/
theorem above_Obar (c : Dev nD) : ∀ n, Above 1 (Obar c n)
  | 0 => (above_Osl c 8).mono (by decide)
  | n + 1 => (above_Obar c n).add (Above.tally (le_refl 1))

/-- A wait at a level below everything owed may proceed. -/
theorem mayWait_below (c : Dev nD) (sm : SemLoc sig) {n : ℕ} (h : lvSem sm < n) {O : CellTallies nD τ sig Unit} (hO : Above n O) :
    (levAts L lv : sProp 𝕄) ⊢ MayWait (c : Thread nD τ) sm () O :=
  MayOwe.of_cut (L := L) (lev := lv) (lvSem sm) (fun p hp => by rw [Finset.mem_singleton.mp hp, L_tc]; exact Finset.mem_singleton_self _)
    (fun g u hg => (hO g u hg).1) (fun p hp => by rw [Finset.mem_singleton.mp hp]; exact le_refl _)
    (fun g u hg => lt_of_lt_of_le h (hO g u hg).2)

end Cert.KernelProof

end
-- ==== Proof.Steps.lean ====
/-
The kernel's operations, one rule each, over the names of Sched.lean: starting and ending a copy of a weight chunk,
reading a chunk, filling a slot, sending it (or storing it, when the slot is the device's own), waiting for a block and
for the end of a send.
-/
module

public import proofs.«01_k».proof.Proof.Sched

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KIx → ℕ)

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What everyone knows, and what a device holds -/

/-- The levels, every shared cell's invariant, and that every shared cell has reached its first round. -/
def know : sProp 𝕄 :=
  iprop(levAts L lv ∗ (bigSep Finset.univ fun ck : Dev nD × KIx => cellInv ER (Rd m ρ) (K ck) (kcell ck))
    ∗ bigSep Finset.univ fun ck : Dev nD × KIx => reached ER (kcell ck) 0)
/-- This knowledge may be kept. -/
instance know_persistent : BI.Persistent (know m ρ K) := by unfold know; infer_instance

/-- It holds the levels, -/
theorem know_lev : know m ρ K ⊢ (levAts L lv : sProp 𝕄) := by unfold know; iintro ⟨H, -, -⟩; iexact H
/-- each cell's invariant, -/
theorem know_inv (ck : Dev nD × KIx) : know m ρ K ⊢ (cellInv ER (Rd m ρ) (K ck) (kcell ck) : sProp 𝕄) := by
  unfold know
  iintro ⟨-, H, -⟩
  iapply (show (bigSep Finset.univ fun ck : Dev nD × KIx => (cellInv ER (Rd m ρ) (K ck) (kcell ck) : sProp 𝕄)) ⊢ cellInv ER (Rd m ρ) (K ck) (kcell ck) from
    bigSep_elim (Finset.mem_univ ck))
  iexact H
/-- and that each cell has reached its round. -/
theorem know_reached (ck : Dev nD × KIx) : know m ρ K ⊢ (reached ER (kcell ck) 0 : sProp 𝕄) := by
  unfold know
  iintro ⟨-, -, H⟩
  iapply (show (bigSep Finset.univ fun ck : Dev nD × KIx => (reached ER (kcell ck) 0 : sProp 𝕄)) ⊢ reached ER (kcell ck) 0 from bigSep_elim (Finset.mem_univ ck))
  iexact H

/-- What device `c` owes, whatever it has waited for. -/
def owesA (c : Dev nD) (O : CellTallies nD τ sig Unit) : sProp 𝕄 := iprop(∃ W, owes (c : Thread nD τ) O W)

/-- Slot `k` of the weight buffer, held and reading `X`. -/
def wAt (c : Dev nD) (k : Fin 8) (X : Vec F S1024x512 .f32) : sProp 𝕄 :=
  iprop(∃ g, ⌜(wSlot k).view.read (Elt F) g = X⌝ ∗ ((wSlot k).view.loc (c : Thread nD τ) ↦[(wSlot k).view.set]{fullShare} g))
/-- A free slot: held with arbitrary contents, its semaphore at zero. -/
def wFree (c : Dev nD) (k : Fin 8) : sProp 𝕄 := iprop((∃ X, wAt c k X) ∗ semVal ((c : Thread nD τ), .dma (copyS k)) 0)
/-- A slot holding chunk `q`, its semaphore at zero. -/
def wFull (c : Dev nD) (k : Fin 8) (q : Fin 16) : sProp 𝕄 := iprop(wAt c k (wChunk m c q) ∗ semVal ((c : Thread nD τ), .dma (copyS k)) 0)
/-- Chunk `q` on its way into slot `k`. -/
def wFly (c : Dev nD) (k : Fin 8) (q : Fin 16) : sProp 𝕄 :=
  Transfers.Flight EC (c : Thread nD τ) (.dma (copyS k)) () NW (wAt c k (wChunk m c q))
/-- A share of chunk `q` of the weights, to be read by its copy. -/
def wTok (c : Dev nD) (q : Fin 16) : sProp 𝕄 :=
  iprop(∃ s : PosShare TreeShare, (wSrc c q).view.loc (c : Thread nD τ) ↦[(wSrc c q).view.set]{s} m ((c : Thread nD τ).loc main_arg1))

/-- Staging, copy and send semaphores are at level 0. -/
theorem lv_low (q : DmaSem sig) (h : q.val < 20) : lvSem (.dma q) = 0 := if_pos h

/-! ## The weight copies -/

/-- The start of chunk `q`'s copy into slot `k`. -/
theorem w_start (c : Dev nD) (k : Fin 8) (q : Fin 16) {src : Memref sig (c : Thread nD τ).2.kind .hbm S1024x512 .f32} {dst : Memref sig (c : Thread nD τ).2.kind .vmem S1024x512 .f32} {sem : DmaSem sig}
    {hsrc : src.view.WordExact} {hdst : dst.view.WordExact} {hsem : DmaTarget.Typed (nD := nD) .hbm (.dma sem) (.here dst)} {Q : PUnit → sProp 𝕄}
    (hs : src = wSrc c q) (hd : dst = wSlot k) (he : sem = copyS k) :
    iprop(wFree c k ∗ wTok m c q) ⊢ iprop((wFly m c k q -∗ Q ⟨⟩)
      -∗ WP c (Prog.lift (.enqueueDma src (.here dst) (.dma sem) hsrc hdst hsem)) Q) := by
  subst hs hd he
  unfold wFree wTok wAt
  iintro ⟨⟨⟨%X, %g, -, Hd⟩, Hsem⟩, %s, Hs⟩ Hk
  simp only [Prog.lift]
  iapply (Transfers.wp_dmaLocal EC 𝒱₀ (c : Thread nD τ) none () NW rfl NW_pos (Finset.Subset.refl _)) $$ [Hs Hd Hsem]
  · isplitl [Hs]; · iexact Hs
    isplitl [Hd]; · iexact Hd
    iexact Hsem
  iintro HF
  rw [wp_ret]; imodintro
  iapply Hk
  unfold wFly
  iapply (Transfers.Flight_mono EC (c : Thread nD τ) ?_) $$ HF
  unfold wAt
  iintro ⟨Hd, -⟩
  iexists ((wSlot k).view.write (Elt F) g ((wSrc c q).view.read (Elt F) (m ((c : Thread nD τ).loc main_arg1))) Finset.univ)
  isplitr
  · ipureintro; exact View.read_write_univ _ _
  · iexact Hd

/-- The wait for chunk `q` in slot `k`, whatever of level 1 or above is owed. -/
theorem w_wait (c : Dev nD) (k : Fin 8) (q : Fin 16) {src : Memref sig (c : Thread nD τ).2.kind .hbm S1024x512 .f32} {dst : Memref sig (c : Thread nD τ).2.kind .vmem S1024x512 .f32} {sem : DmaSem sig}
    {hsrc : src.view.WordExact} {hdst : dst.view.WordExact} {Q : PUnit → sProp 𝕄} {O : CellTallies nD τ sig Unit} (hO : Above 1 O)
    (hd : dst = wSlot k) (he : sem = copyS k) :
    iprop(know m ρ K ∗ wFly m c k q ∗ owesA c O) ⊢ iprop((iprop(wFull m c k q ∗ owesA c O) -∗ Q ⟨⟩)
      -∗ WP c (Prog.lift (.waitDma2 sem src dst hsrc hdst)) Q) := by
  subst hd he
  unfold wFly owesA
  iintro ⟨#HK, HF, %W, HO⟩ Hk
  simp only [Prog.lift]
  iapply (Transfers.wp_waitLocalO EC 𝒱₀ (c : Thread nD τ) none () (N := NW) (show (wSlot k).view.dmaCredit = NW from rfl) (O := O) (W := W)) $$ [HF HO]
  · isplitl [HF]; · iexact HF
    isplitl [HO]; · iexact HO
    iapply (mayWait_below c (.dma (copyS k)) (n := 1) (by rw [lv_low (copyS k) (by show 4 + k.val < 20; omega)]; decide) hO)
    iapply (know_lev m ρ K); iexact HK
  iintro ⟨HD, HV, HO⟩
  rw [wp_ret]; imodintro
  iapply Hk
  unfold wFull
  isplitr [HO]
  · isplitl [HD]; · iexact HD
    iexact HV
  · iexists _; iexact HO

/-- A read of slot `k`: the chunk it holds, up to the leading unit axis; the slot is then free. -/
theorem w_load (c : Dev nD) (k : Fin 8) (q : Fin 16) {off : Fin 3 → ℕ} {inb : ∀ a, off a + S1x1024x512.size a ≤ S8x1024x512.size a}
    {hl : wM.view.LoadsAt (Rect.unit (s := S8x1024x512) off S1x1024x512.size inb).toLoadRect} (hr : off = ![k.val, 0, 0])
    {Q : Vec F S1x1024x512 .f32 → sProp 𝕄} :
    wFull m c k q ⊢ iprop((∀ v : Vec F S1x1024x512 .f32, ⌜shapeCast S1024x512 v shapeCasts_S1x1024x512_S1024x512 = wChunk m c q⌝ -∗ wFree c k -∗ Q v)
      -∗ WP c (Prog.lift (.load wM (Rect.unit (s := S8x1024x512) off S1x1024x512.size inb).toLoadRect hl)) Q) := by
  subst hr
  unfold wFull wFree wAt
  iintro ⟨⟨%g, %hg, Hd⟩, Hsem⟩ Hk
  simp only [Prog.lift]
  iapply (wp_load (m := wM) 𝒱₀ (c : Thread nD τ) none Set.univ (S := (wSlot k).view.set) ?_) $$ Hd
  · rw [show (wSlot k).view.set = (wM.view.slice (wRect k)).set from View.set_reshape _ _, View.set_slice]
    exact Finset.Subset.refl _
  iintro Hd
  rw [wp_ret]; imodintro
  ispecialize Hk $$ %(wM.view.readAt (Elt F) (wRect k).toLoadRect g) %hg
  iapply Hk
  isplitl [Hd]
  · iexists _; iexists g; isplitr
    · ipureintro; rfl
    · iexact Hd
  · iexact Hsem

/-! ## The copy of the row block of `x`, and the scales -/

/-- The buffer of the row block, held with arbitrary contents, its semaphore at zero. -/
def xFree (c : Dev nD) : sProp 𝕄 :=
  iprop((∃ f, ((c : Thread nD τ).loc cc0_scratch0 ↦{fullShare} f)) ∗ semVal ((c : Thread nD τ), .dma xS) 0)
/-- The copy of `x` has landed. -/
def xFull (c : Dev nD) : sProp 𝕄 :=
  iprop(((c : Thread nD τ).loc cc0_scratch0 ↦{fullShare} xBlk m c) ∗ semVal ((c : Thread nD τ), .dma xS) 0)
/-- The copy of `x` is in flight. -/
def xFly (c : Dev nD) : sProp 𝕄 :=
  Transfers.Flight EC (c : Thread nD τ) (.dma xS) () NX ((c : Thread nD τ).loc cc0_scratch0 ↦{fullShare} xBlk m c)
/-- A part of the right to read `x`. -/
def xTok (c : Dev nD) : sProp 𝕄 := iprop(∃ s : PosShare TreeShare, (c : Thread nD τ).loc main_arg0 ↦{s} m ((c : Thread nD τ).loc main_arg0))

/-- The start of the row block's copy. -/
theorem x_start (c : Dev nD) {hsrc : xH.view.WordExact} {hdst : xM.view.WordExact}
    {hsem : DmaTarget.Typed (nD := nD) .hbm (.dma xS) (.here (p := (c : Thread nD τ).2) xM)} {Q : PUnit → sProp 𝕄} :
    iprop(xFree c ∗ xTok m c) ⊢ iprop((xFly m c -∗ Q ⟨⟩)
      -∗ WP c (Prog.lift (.enqueueDma xH (.here xM) (.dma xS) hsrc hdst hsem)) Q) := by
  unfold xFree xTok
  iintro ⟨⟨⟨%g, Hd⟩, Hsem⟩, %s, Hs⟩ Hk
  simp only [Prog.lift]
  iapply (Transfers.wp_dmaLocal EC 𝒱₀ (c : Thread nD τ) none (src := xH) (dst := xM) (q := s) (fs := m ((c : Thread nD τ).loc main_arg0)) (fd := g) (Sd := Finset.univ) () NX rfl NX_pos (Finset.subset_univ _)) $$ [Hs Hd Hsem]
  · isplitl [Hs]
    · rw [View.set_whole]; iexact Hs
    isplitl [Hd]; · iexact Hd
    iexact Hsem
  iintro HF
  rw [wp_ret]; imodintro
  iapply Hk
  unfold xFly
  iapply (Transfers.Flight_mono EC (c : Thread nD τ) ?_) $$ HF
  rw [show xM.view.write (Elt F) g ((ReadAs.same : ReadAs (Elt F) S512x4096 .f32 S512x4096 .f32).apply (xH.view.read (Elt F) (m ((c : Thread nD τ).loc main_arg0)))) Finset.univ = xBlk m c from
    View.write_whole_univ _ _ _]
  iintro ⟨Hd, -⟩
  iexact Hd

/-- The wait for the row block. -/
theorem x_wait (c : Dev nD) {src : Memref sig (c : Thread nD τ).2.kind .hbm S512x4096 .f32}
    {hsrc : src.view.WordExact} {hdst : xM.view.WordExact} {Q : PUnit → sProp 𝕄} {O : CellTallies nD τ sig Unit} (hO : Above 1 O) :
    iprop(know m ρ K ∗ xFly m c ∗ owesA c O) ⊢ iprop((iprop(xFull m c ∗ owesA c O) -∗ Q ⟨⟩)
      -∗ WP c (Prog.lift (.waitDma2 xS src xM hsrc hdst)) Q) := by
  unfold xFly owesA
  iintro ⟨#HK, HF, %W, HO⟩ Hk
  simp only [Prog.lift]
  iapply (Transfers.wp_waitLocalO EC 𝒱₀ (c : Thread nD τ) none () (N := NX) (show xM.view.dmaCredit = NX from rfl) (O := O) (W := W)) $$ [HF HO]
  · isplitl [HF]; · iexact HF
    isplitl [HO]; · iexact HO
    iapply (mayWait_below c (.dma xS) (n := 1) (by rw [lv_low xS (by decide)]; decide) hO)
    iapply (know_lev m ρ K); iexact HK
  iintro ⟨HD, HV, HO⟩
  rw [wp_ret]; imodintro
  iapply Hk
  unfold xFull
  isplitr [HO]
  · isplitl [HD]; · iexact HD
    iexact HV
  · iexists _; iexact HO

/-- The read of the row block. -/
theorem x_load (c : Dev nD) {inb : ∀ a, (![0, 0] : Fin 2 → ℕ) a + S512x4096.size a ≤ S512x4096.size a}
    {hl : xM.view.LoadsAt (Rect.unit (s := S512x4096) ![0, 0] S512x4096.size inb).toLoadRect} {Q : Vec F S512x4096 .f32 → sProp 𝕄} :
    xFull m c ⊢ iprop((xFull m c -∗ Q (xBlk m c))
      -∗ WP c (Prog.lift (.load xM (Rect.unit (s := S512x4096) ![0, 0] S512x4096.size inb).toLoadRect hl)) Q) := by
  unfold xFull
  iintro ⟨Hd, Hsem⟩ Hk
  simp only [Prog.lift]
  iapply (wp_load (m := xM) 𝒱₀ (c : Thread nD τ) none Set.univ (S := Finset.univ) (Finset.subset_univ _)) $$ Hd
  iintro Hd
  rw [wp_ret]; imodintro
  rw [show xM.view.readAt (Elt F) (Rect.unit (s := S512x4096) ![0, 0] S512x4096.size inb).toLoadRect (xBlk m c) = xBlk m c from
    Memref.readAt_unit_zero (Elt F) cc0_scratch0 (funext fun a => by fin_cases a <;> rfl) _ _]
  iapply Hk
  isplitl [Hd]; · iexact Hd
  iexact Hsem

/-- A staged scale, held. -/
def sxAt (c : Dev nD) : sProp 𝕄 := ((c : Thread nD τ).loc cc0_stg0_0 ↦{fullShare} sxStg m ρ c)
/-- The second scale, likewise. -/
def swAt (c : Dev nD) : sProp 𝕄 := ((c : Thread nD τ).loc cc0_stg1_0 ↦{fullShare} swStg m ρ c)

/-- The read of the scale of `x`. -/
theorem sx_load (c : Dev nD) {h1 : sRect.shape.numel = 1} {hp : _} {Q : F .f32 → sProp 𝕄} :
    sxAt m ρ c ⊢ iprop((sxAt m ρ c -∗ Q (sxVal m ρ c)) -∗ WP c (smemLoad sxM sRect h1 hp) Q) := by
  unfold sxAt sxVal
  iintro Hs Hk
  unfold smemLoad
  iapply (wp_smemLoadElt 𝒱₀ (c : Thread nD τ) none Set.univ (m := sxM) (r := sRect) (S := Finset.univ) (Finset.subset_univ _)) $$ Hs
  iintro Hs
  rw [wp_ret]; imodintro
  iapply Hk $$ [Hs]; iexact Hs

/-- The read of the scale of `w`. -/
theorem sw_load (c : Dev nD) {h1 : sRect.shape.numel = 1} {hp : _} {Q : F .f32 → sProp 𝕄} :
    swAt m ρ c ⊢ iprop((swAt m ρ c -∗ Q (swVal m ρ c)) -∗ WP c (smemLoad swM sRect h1 hp) Q) := by
  unfold swAt swVal
  iintro Hs Hk
  unfold smemLoad
  iapply (wp_smemLoadElt 𝒱₀ (c : Thread nD τ) none Set.univ (m := swM) (r := sRect) (S := Finset.univ) (Finset.subset_univ _)) $$ Hs
  iintro Hs
  rw [wp_ret]; imodintro
  iapply Hk $$ [Hs]; iexact Hs

/-! ## The barrier -/

/-- The signal to device `d`: it hands over row block `d` of this device's output. -/
theorem bar_signal (c d n : Dev nD) (hn : n = d) {i : ℕ} (hd : d = ⟨7 - i, by show _ < 8; omega⟩) {sem : Sem sig} (he : sem = barS) {Q : PUnit → sProp 𝕄} :
    iprop(know m ρ K ∗ owesA c (Obar c (i + 1)) ∗ dutyTok ER (barCell d) 0 c ∗ barPay d c)
      ⊢ iprop((owesA c (Obar c i) -∗ Q ⟨⟩) -∗ WP c (semSignalWord n sem 1#32) Q) := by
  subst hn he
  unfold owesA
  iintro ⟨#HK, ⟨%W, HO⟩, Ht, Hp⟩ Hk
  simp only [semSignalWord]
  iapply (Rounds.wp_signal 𝒱₀ ER (Rd m ρ) (c : Thread nD τ) none (dst := (n : Thread nD τ)) (κ := K (n, .inl ())) (k' := 1) (r := 0)
      (d := c) (by rw [duties_bar]; exact Finset.mem_univ _) (amount_bar m ρ n c) () (Obar c i)
      (show Obar c (i + 1) = Obar c i + tallyAt (barCell n) () 1 by rw [hd]; rfl) (W := W)) $$ [HO Ht Hp]
  · isplitr; · iapply (know_inv m ρ K (n, .inl ())); iexact HK
    isplitl [HO]; · iexact HO
    isplitl [Ht]; · iexact Ht
    isplitl [Hp]; · iapply (Entails.of_eq (payload_bar m ρ n c).symm); iexact Hp
    iapply (know_reached m ρ K (n, .inl ())); iexact HK
  iintro HO
  rw [wp_ret]; imodintro
  iapply Hk; iexists _; iexact HO

/-- The wait for the eight signals: every device's row block for this one, and the barrier's counter back at zero. -/
theorem bar_wait (c : Dev nD) {sem : Sem sig} (he : sem = barS) {Q : PUnit → sProp 𝕄} :
    iprop(know m ρ K ∗ cred (tallyAt (barCell c) () 8) ∗ owesA c (Obar c 0) ∗ atPos ER (barCell c) 0 ∅ 0)
      ⊢ iprop((iprop(owesA c (Osl c 8) ∗ semVal (barCell c) 0 ∗ bigSep Finset.univ fun d => barPay c d) -∗ Q ⟨⟩) -∗ WP c (semWaitWord sem 8#32) Q) := by
  subst he
  unfold owesA
  iintro ⟨#HK, Hc, ⟨%W, HO⟩, Hat⟩ Hk
  simp only [semWaitWord]
  iapply (Rounds.wp_wait_rest_token 𝒱₀ ER (Rd m ρ) (c : Thread nD τ) none (κ := K (c, .inl ()))
      (wpE_semWait_eq 𝒱₀ (c : Thread nD τ) none Set.univ) (Set.mem_univ _) () (O := Obar c 0) (W := W) (R := 0) (m := 0) (T := ∅)
      (by rw [expect_bar]; decide)) $$ [Hc HO Hat]
  · isplitr; · iapply (know_inv m ρ K (c, .inl ())); iexact HK
    isplitl [Hc]; · iexact Hc
    isplitl [HO]; · iexact HO
    isplitr
    · iapply (mayWait_below c (.reg barS) (n := 2) (by decide) (above_Osl c 8)); iapply (know_lev m ρ K); iexact HK
    iexact Hat
  iintro ⟨HO, Hat, -, Hpay⟩
  ihave Hrows := (Entails.of_eq (rest_bar m ρ c)) $$ Hpay
  rw [wp_ret]
  imod (Rounds.cell_close ER (Rd m ρ) (Set.mem_univ (K (c, .inl ()))) (fun h => h) (R := 1) (duties_later m ρ (barCell c))) $$ [Hat] with Hz
  · isplitr; · iapply (know_inv m ρ K (c, .inl ())); iexact HK
    iexact Hat
  imodintro
  iapply Hk
  isplitl [HO]; · iexists _; iexact HO
  isplitl [Hz]; · iexact Hz
  iexact Hrows

end Cert.KernelProof

end
-- ==== Proof.Steps2.lean ====
/-
The operations on the slots of the result buffer and on the output's row blocks: filling a slot; sending it, or storing
it when it is the device's own; waiting for a device's block; waiting for the end of a send.
-/
module

public import proofs.«01_k».proof.Proof.Steps
@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KIx → ℕ)

/-! ## Filling a slot of the result buffer -/

/-- Slot `k` of the result buffer holding `X`. -/
def yAt (c : Dev nD) (k : Fin 8) (X : FVec F S512x256 .bf16) : sProp 𝕄 := owns (c : Thread nD τ) (ySlot k) fullShare X
/-- A free slot. -/
def yFree (c : Dev nD) (k : Fin 8) : sProp 𝕄 := iprop(∃ X, owns (c : Thread nD τ) (ySlot k) fullShare X)

/-- A result slot as a matrix has the elements of its slice. -/
theorem yRect_set (k : Fin 8) : (ySlot k).view.set = (yM.view.slice (yRect k)).set := View.set_reshape _ _

/-- A read of a slot whose result is not used. -/
theorem y_peek (c : Dev nD) (k : Fin 8) {off : Fin 3 → ℕ} {inb : ∀ a, off a + S1x512x256.size a ≤ S8x512x256.size a}
    {hl : yM.view.LoadsAt (Rect.unit (s := S8x512x256) off S1x512x256.size inb).toLoadRect} (hr : off = ![k.val, 0, 0])
    {Q : Vec F S1x512x256 .bf16 → sProp 𝕄} :
    yFree c k ⊢ iprop((∀ v : Vec F S1x512x256 .bf16, yFree c k -∗ Q v)
      -∗ WP c (Prog.lift (.load yM (Rect.unit (s := S8x512x256) off S1x512x256.size inb).toLoadRect hl)) Q) := by
  subst hr
  unfold yFree owns
  iintro ⟨%X, %g, %hg, Hd⟩ Hk
  simp only [Prog.lift]
  iapply (wp_load (m := yM) 𝒱₀ (c : Thread nD τ) none Set.univ (S := (ySlot k).view.set) ?_) $$ Hd
  · rw [yRect_set, View.set_slice]; exact Finset.Subset.refl _
  iintro Hd
  rw [wp_ret]; imodintro
  ispecialize Hk $$ %(yM.view.readAt (Elt F) (yRect k).toLoadRect g)
  iapply Hk
  iexists X; iexists g; isplitr
  · ipureintro; exact hg
  · iexact Hd

/-- A read of a slot: what it holds, up to the leading unit axis. -/
theorem y_load (c : Dev nD) (k : Fin 8) (X : FVec F S512x256 .bf16) {off : Fin 3 → ℕ} {inb : ∀ a, off a + S1x512x256.size a ≤ S8x512x256.size a}
    {hl : yM.view.LoadsAt (Rect.unit (s := S8x512x256) off S1x512x256.size inb).toLoadRect} (hr : off = ![k.val, 0, 0])
    {Q : Vec F S1x512x256 .bf16 → sProp 𝕄} :
    yAt c k X ⊢ iprop((∀ v : Vec F S1x512x256 .bf16, ⌜shapeCast S512x256 v shapeCasts_S1x512x256_S512x256 = X⌝ -∗ yAt c k X -∗ Q v)
      -∗ WP c (Prog.lift (.load yM (Rect.unit (s := S8x512x256) off S1x512x256.size inb).toLoadRect hl)) Q) := by
  subst hr
  unfold yAt owns
  iintro ⟨%g, %hg, Hd⟩ Hk
  simp only [Prog.lift]
  iapply (wp_load (m := yM) 𝒱₀ (c : Thread nD τ) none Set.univ (S := (ySlot k).view.set) ?_) $$ Hd
  · rw [yRect_set, View.set_slice]; exact Finset.Subset.refl _
  iintro Hd
  rw [wp_ret]; imodintro
  ispecialize Hk $$ %(yM.view.readAt (Elt F) (yRect k).toLoadRect g) %hg
  iapply Hk
  iexists g; isplitr
  · ipureintro; exact hg
  · iexact Hd

/-- A store into a slot. -/
theorem y_store (c : Dev nD) (k : Fin 8) {X : FVec F S512x256 .bf16} {off : Fin 3 → ℕ} {inb : ∀ a, off a + S1x512x256.size a ≤ S8x512x256.size a}
    {w : Vec F S1x512x256 .bf16}
    {hx : (yM.access (Rect.unit (s := S8x512x256) off S1x512x256.size inb)).Stores Finset.univ} {hm : _}
    (hr : off = ![k.val, 0, 0]) (hw : shapeCast S512x256 w shapeCasts_S1x512x256_S512x256 = X) {Q : PUnit → sProp 𝕄} :
    yFree c k ⊢ iprop((yAt c k X -∗ Q ⟨⟩)
      -∗ WP c (Prog.lift (.store yM (Rect.unit (s := S8x512x256) off S1x512x256.size inb) w Finset.univ hx hm)) Q) := by
  subst hr hw
  unfold yFree yAt owns
  iintro ⟨%X, %g, -, Hd⟩ Hk
  simp only [Prog.lift]
  iapply (wp_store (m := yM) (r := yRect k) (Mk := Finset.univ) 𝒱₀ (c : Thread nD τ) none Set.univ (S := (ySlot k).view.set) ?_) $$ Hd
  · rw [yRect_set]; exact Finset.Subset.refl _
  iintro Hd
  rw [wp_ret]; imodintro
  iapply Hk
  iexists ((yM.access (yRect k)).write (Elt F) g w Finset.univ); isplitr
  · ipureintro
    show shapeCast S512x256 ((yM.access (yRect k)).read (Elt F) ((yM.access (yRect k)).write (Elt F) g w Finset.univ)) shapeCasts_S1x512x256_S512x256 = _
    rw [View.read_write_univ]
  · iexact Hd

/-! ## Sending a slot, or keeping it -/

/-- What sending slot `k` needs: its row block of the receiver's output, and the tokens of the send and of the landing. -/
def Slot (c : Dev nD) (k : Fin 8) : sProp 𝕄 :=
  iprop((∃ X, owns (tgt c k : Thread nD τ) (rowsM c) fullShare X)
    ∗ if tgt c k = c then (emp : sProp 𝕄) else iprop(dutyTok ER (sendCell c k) 0 (0 : Dev nD) ∗ dutyTok ER (recvCell (tgt c k) c) 0 (0 : Dev nD)))
/-- What is left once slot `k` is on its way, or kept. -/
def Sent (c : Dev nD) (k : Fin 8) : sProp 𝕄 :=
  if tgt c k = c then iprop(yFree c k ∗ owns (c : Thread nD τ) (rowsM c) fullShare (blk m ρ c c)) else cred (tallyAt (sendCell c k) () N)

omit [FloatOps F] in
/-- The device's own slot needs only its own row block. -/
theorem slot_own (c : Dev nD) (k : Fin 8) (h : tgt c k = c) :
    (Slot (F := F) c k) ⊢ iprop(∃ X, owns (c : Thread nD τ) (rowsM c) fullShare X) := by
  unfold Slot
  rw [if_pos h, h]
  iintro ⟨H, -⟩
  iexact H

/-- The row block `c` of an output, named by an offset equal to its own. -/
theorem rows_eq (c : Dev nD) {off : Fin 2 → ℕ} {inb : ∀ a, off a + S512x256.size a ≤ S4096x256.size a} (h : off = ![512 * c.val, 0]) :
    oM.slice (Rect.unit (s := S4096x256) off S512x256.size inb) (fun _ => rfl) = rowsM c := by subst h; rfl

/-- The transfer of slot `k` to its receiver. -/
theorem send_op (c : Dev nD) (k : Fin 8) (h : tgt c k ≠ c) {n : ℕ} (hn : n + k.val = 7) {d : Dev nD} (hd : d = tgt c k)
    {ys : Memref sig (c : Thread nD τ).2.kind .vmem S512x256 .bf16} (hy : ys = ySlot k)
    {os : Memref sig (Dev.tc d : Thread nD τ).2.kind .vmem S512x256 .bf16} (ho : os = rowsM c)
    {sS rS : DmaSem sig} (hS : sS = sendS k) (hR : rS = recvS c)
    {hsc : os.view.ref.isScScratch = false} {hsrc : ys.view.WordExact} {hdst : os.view.WordExact}
    {hsem : DmaTarget.Typed (nD := nD) .vmem (.dma rS) (.remote (Dev.tc d : Thread nD τ) os (.dma sS) hsc)} {Q : PUnit → sProp 𝕄} :
    iprop(know m ρ K ∗ yAt c k (yv m ρ c k) ∗ owesA c (Osl c (n + 1)) ∗ Slot c k)
      ⊢ iprop((iprop(owesA c (Osl c n) ∗ Sent m ρ c k) -∗ Q ⟨⟩)
        -∗ WP c (Prog.lift (.enqueueDma ys (.remote (Dev.tc d) os (.dma sS) hsc) (.dma rS) hsrc hdst hsem)) Q) := by
  subst hd hy ho hS hR
  have hk : (⟨7 - n, by omega⟩ : Fin 8) = k := Fin.ext (by show 7 - n = k.val; omega)
  have hO : Osl c (n + 1) = Osl c n + tallyAt (recvCell (tgt c k) c) () N := by
    show Osl c n + sendO c ⟨7 - n, _⟩ = _
    rw [hk]; unfold sendO; rw [if_neg h]
  unfold Slot Sent owesA yAt owns
  rw [if_neg h, if_neg h]
  iintro ⟨#HK, ⟨%g, %hg, Hy⟩, ⟨%W, HO⟩, ⟨%X, %f, -, Ho⟩, Ht1, Ht2⟩ Hk
  simp only [Prog.lift]
  iapply (Rounds.wp_send_pointsTo 𝒱₀ ER (Rd m ρ) (c : Thread nD τ) none (c' := (tgt c k : Thread nD τ)) (κ₁ := K (c, .inr (.inl k))) (κ₂ := K (tgt c k, .inr (.inr c)))
      (src := ySlot k) (dst := rowsM c) (fs := g) (fd := f)
      (r₁ := 0) (r₂ := 0) (d₁ := (0 : Dev nD)) (d₂ := (0 : Dev nD))
      (by rw [duties_send, if_neg h]; exact Finset.mem_singleton_self _)
      (by rw [duties_recv, if_neg (fun e => h e.symm)]; exact Finset.mem_singleton_self _)
      () () N rfl (amount_send m ρ c k 0) (amount_recv m ρ (tgt c k) c 0) (Osl c n) hO (W := W)
      (by rw [payload_send]; unfold sendPay owns
          iintro H; iexists _; iexists g; isplitr
          · ipureintro; rfl
          · iexact H)
      (by rw [payload_recv]; unfold recvPay owns
          iintro H
          iexists ((rowsM c).view.write (Elt F) f ((ySlot k).view.read (Elt F) g) Finset.univ); isplitr
          · ipureintro; rw [View.read_write_univ, hg, blk_tgt]
          · iexact H)) $$ [Hy HO Ho Ht1 Ht2]
  · isplitr; · iapply (know_inv m ρ K (c, .inr (.inl k))); iexact HK
    isplitr; · iapply (know_inv m ρ K (tgt c k, .inr (.inr c))); iexact HK
    isplitl [Hy]; · iexact Hy
    isplitl [Ho]; · iexact Ho
    isplitl [HO]; · iexact HO
    isplitl [Ht1]; · iexact Ht1
    isplitr; · iapply (know_reached m ρ K (c, .inr (.inl k))); iexact HK
    isplitl [Ht2]; · iexact Ht2
    iapply (know_reached m ρ K (tgt c k, .inr (.inr c))); iexact HK
  iintro ⟨Hc, HO⟩
  rw [wp_ret]; imodintro
  iapply Hk
  isplitl [HO]; · iexists _; iexact HO
  iexact Hc

/-- The store of the device's own row block. -/
theorem own_store (c : Dev nD) {X : FVec F S512x256 .bf16} {w : Vec F S512x256 .bf16}
    {off : Fin 2 → ℕ} {inb : ∀ a, off a + S512x256.size a ≤ S4096x256.size a} (hr : off = ![512 * c.val, 0]) (hw : w = X)
    {hx : (oM.access (Rect.unit (s := S4096x256) off S512x256.size inb)).Stores Finset.univ}
    {hm : (Finset.univ : Finset (Rect.unit (s := S4096x256) off S512x256.size inb).shape.Idx) = Finset.univ ∨ ∀ a, (Rect.unit (s := S4096x256) off S512x256.size inb).stride a = 1} {Q : PUnit → sProp 𝕄} :
    iprop(∃ X, owns (c : Thread nD τ) (rowsM c) fullShare X) ⊢ iprop((owns (c : Thread nD τ) (rowsM c) fullShare X -∗ Q ⟨⟩)
      -∗ WP c (Prog.lift (.store oM (Rect.unit (s := S4096x256) off S512x256.size inb) w Finset.univ hx hm)) Q) := by
  subst hr hw
  unfold owns
  iintro ⟨%X, %g, -, Hd⟩ Hk
  simp only [Prog.lift]
  iapply (wp_store (m := oM) (r := oRect c) (Mk := Finset.univ) 𝒱₀ (c : Thread nD τ) none Set.univ (S := (rowsM c).view.set) (Finset.Subset.refl _)) $$ Hd
  iintro Hd
  rw [wp_ret]; imodintro
  iapply Hk
  iexists ((oM.access (oRect c)).write (Elt F) g w Finset.univ); isplitr
  · ipureintro; exact View.read_write_univ _ _
  · iexact Hd

/-- A read of the device's own row block whose result is not used. -/
theorem own_peek (c : Dev nD) {off : Fin 2 → ℕ} {inb : ∀ a, off a + S512x256.size a ≤ S4096x256.size a} (hr : off = ![512 * c.val, 0])
    {hl : oM.view.LoadsAt (Rect.unit (s := S4096x256) off S512x256.size inb).toLoadRect} {Q : Vec F S512x256 .bf16 → sProp 𝕄} :
    iprop(∃ X, owns (c : Thread nD τ) (rowsM c) fullShare X) ⊢ iprop((∀ v, iprop(∃ X, owns (c : Thread nD τ) (rowsM c) fullShare X) -∗ Q v)
      -∗ WP c (Prog.lift (.load oM (Rect.unit (s := S4096x256) off S512x256.size inb).toLoadRect hl)) Q) := by
  subst hr
  unfold owns
  iintro ⟨%X, %g, %hg, Hd⟩ Hk
  simp only [Prog.lift]
  iapply (wp_load (m := oM) 𝒱₀ (c : Thread nD τ) none Set.univ (S := (rowsM c).view.set) ?_) $$ Hd
  · rw [View.set_slice]; exact Finset.Subset.refl _
  iintro Hd
  rw [wp_ret]; imodintro
  ispecialize Hk $$ %(oM.view.readAt (Elt F) (oRect c).toLoadRect g)
  iapply Hk
  iexists X; iexists g; isplitr
  · ipureintro; exact hg
  · iexact Hd

/-- The two conditionals of a slot: sent when it is for another device, stored into the output when it is its own. -/
theorem slot_out (c : Dev nD) (k : Fin 8) {n : ℕ} (hn : n + k.val = 7)
    {cd cd' : BitVec 1} (hcd : cd = 1#1 ↔ tgt c k ≠ c) (hcd' : cd' = 1#1 ↔ tgt c k = c)
    {d : cd = 1#1 → Dev nD} (hd : ∀ h, d h = tgt c k)
    {ys : Memref sig (c : Thread nD τ).2.kind .vmem S512x256 .bf16} (hy : ys = ySlot k)
    {os : cd = 1#1 → Memref sig .tc .vmem S512x256 .bf16} (ho : ∀ h, os h = rowsM c)
    {sS : DmaSem sig} {rS : cd = 1#1 → DmaSem sig} (hS : sS = sendS k) (hR : ∀ h, rS h = recvS c)
    {hsc : ∀ h, (os h).view.ref.isScScratch = false} {hsrc : cd = 1#1 → ys.view.WordExact} {hdst : ∀ h, (os h).view.WordExact}
    {hsem : ∀ h, DmaTarget.Typed (nD := nD) .vmem (.dma (rS h)) (.remote (Dev.tc (d h) : Thread nD τ) (os h) (.dma sS) (hsc h))}
    {off : Fin 2 → ℕ} {inb : cd' = 1#1 → ∀ a, off a + S512x256.size a ≤ S4096x256.size a} (hoff : off = ![512 * c.val, 0])
    {offy : Fin 3 → ℕ} {inby : ∀ a, offy a + S1x512x256.size a ≤ S8x512x256.size a} (hoy : offy = ![k.val, 0, 0])
    {hl : yM.view.LoadsAt (Rect.unit (s := S8x512x256) offy S1x512x256.size inby).toLoadRect}
    {hl' : ∀ h, oM.view.LoadsAt (Rect.unit (s := S4096x256) off S512x256.size (inb h)).toLoadRect}
    {hx : ∀ h, (oM.access (Rect.unit (s := S4096x256) off S512x256.size (inb h))).Stores Finset.univ}
    {hm : ∀ h, (Finset.univ : Finset (Rect.unit (s := S4096x256) off S512x256.size (inb h)).shape.Idx) = Finset.univ ∨ ∀ a, (Rect.unit (s := S4096x256) off S512x256.size (inb h)).stride a = 1}
    {pay : Vec F S1x512x256 .bf16 → Vec F S512x256 .bf16} (hp : ∀ v, pay v = shapeCast S512x256 v shapeCasts_S1x512x256_S512x256)
    {α : Type} {R : Prog (TpuEff nD τ sig (Elt F) Λ₀ .tc) α} {Q : α → sProp 𝕄} :
    iprop(know m ρ K ∗ yAt c k (yv m ρ c k) ∗ owesA c (Osl c (n + 1)) ∗ Slot c k)
      ⊢ iprop((iprop(owesA c (Osl c n) ∗ Sent m ρ c k) -∗ WP c R Q)
        -∗ WP c (if h : cd = 1#1 then
              Prog.lift (.enqueueDma ys (.remote (Dev.tc (d h)) (os h) (.dma sS) (hsc h)) (.dma (rS h)) (hsrc h) (hdst h) (hsem h))
                >>= fun _ => if h : cd' = 1#1 then
                  Prog.lift (.load yM (Rect.unit (s := S8x512x256) offy S1x512x256.size inby).toLoadRect hl)
                    >>= fun v => Prog.lift (.load oM (Rect.unit (s := S4096x256) off S512x256.size (inb h)).toLoadRect (hl' h))
                    >>= fun _ => Prog.lift (.store oM (Rect.unit (s := S4096x256) off S512x256.size (inb h)) (pay v) Finset.univ (hx h) (hm h))
                    >>= fun _ => R
                else R
            else if h : cd' = 1#1 then
                  Prog.lift (.load yM (Rect.unit (s := S8x512x256) offy S1x512x256.size inby).toLoadRect hl)
                    >>= fun v => Prog.lift (.load oM (Rect.unit (s := S4096x256) off S512x256.size (inb h)).toLoadRect (hl' h))
                    >>= fun _ => Prog.lift (.store oM (Rect.unit (s := S4096x256) off S512x256.size (inb h)) (pay v) Finset.univ (hx h) (hm h))
                    >>= fun _ => R
                else R) Q) := by
  by_cases h : tgt c k = c
  · rw [dif_neg (fun e => hcd.mp e h), dif_pos (hcd'.mpr h)]
    have hk : (⟨7 - n, by omega⟩ : Fin 8) = k := Fin.ext (by show 7 - n = k.val; omega)
    have hO : Osl c (n + 1) = Osl c n := by
      show Osl c n + sendO c ⟨7 - n, _⟩ = _
      rw [hk]; unfold sendO; rw [if_pos h, add_zero]
    rw [hO]
    simp only [wp_bind]
    unfold Sent
    rw [if_pos h]
    iintro ⟨#HK, Hy, HO, Hr⟩ Hk
    ihave Hr := (slot_own c k h) $$ Hr
    iapply (y_load c k (yv m ρ c k) hoy) $$ Hy
    iintro %v %hv Hy
    iapply (own_peek c hoff) $$ Hr
    iintro %_v Hr
    iapply (own_store c (X := blk m ρ c c) hoff (by rw [hp, hv]; exact (show yv m ρ c k = blk m ρ c c from by rw [← blk_tgt, h]))) $$ Hr
    iintro Hr
    iapply Hk
    isplitl [HO]; · iexact HO
    isplitl [Hy]; · unfold yFree yAt; iexists _; iexact Hy
    iexact Hr
  · rw [dif_pos (hcd.mpr h), dif_neg (fun e => h (hcd'.mp e))]
    simp only [wp_bind]
    exact send_op m ρ K c k h hn (hd _) hy (ho _) hS (hR _) (Q := fun _ => WP c R Q)

/-! ## The waits at the end -/

/-- The wait for device `j`'s block: the block, and the cell's counter back at zero. -/
theorem recv_wait (c j : Dev nD) (h : j ≠ c) {src : Memref sig (c : Thread nD τ).2.kind .vmem S512x256 .bf16}
    {off : Fin 2 → ℕ} {inb : ∀ a, off a + S512x256.size a ≤ S4096x256.size a} {rS : DmaSem sig} (hR : rS = recvS j)
    {hsrc : src.view.WordExact} {hdst : (oM.slice (Rect.unit (s := S4096x256) off S512x256.size inb) (fun _ => rfl)).view.WordExact} {Q : PUnit → sProp 𝕄} :
    iprop(know m ρ K ∗ cred (tallyAt (recvCell c j) () N) ∗ owesA c 0 ∗ atPos ER (recvCell c j) 0 ∅ 0)
      ⊢ iprop((iprop(owesA c 0 ∗ owns (c : Thread nD τ) (rowsM j) fullShare (blk m ρ j c) ∗ semVal (recvCell c j) 0) -∗ Q ⟨⟩)
        -∗ WP c (Prog.lift (.waitDma2 rS src (oM.slice (Rect.unit (s := S4096x256) off S512x256.size inb) (fun _ => rfl)) hsrc hdst)) Q) := by
  subst hR
  unfold owesA
  iintro ⟨#HK, Hc, ⟨%W, HO⟩, Hat⟩ Hk
  simp only [Prog.lift]
  iapply (Rounds.wp_wait_rest_token 𝒱₀ ER (Rd m ρ) (c : Thread nD τ) none (κ := K (c, .inr (.inr j)))
      (wpE_waitDma2_eq 𝒱₀ (c : Thread nD τ) none Set.univ) (Set.mem_univ _) () (O := 0) (W := W) (R := 0) (m := 0) (T := ∅)
      (by rw [expect_recv m ρ c j h, Nat.zero_add]; rfl)) $$ [Hc HO Hat]
  · isplitr; · iapply (know_inv m ρ K (c, .inr (.inr j))); iexact HK
    isplitl [Hc]; · iexact Hc
    isplitl [HO]; · iexact HO
    isplitr; · rw [MayWait_zero]; iempintro
    iexact Hat
  iintro ⟨HO, Hat, -, Hpay⟩
  ihave Hrows := (Entails.of_eq (rest_recv m ρ c j h)) $$ Hpay
  rw [wp_ret]
  imod (Rounds.cell_close ER (Rd m ρ) (Set.mem_univ (K (c, .inr (.inr j)))) (fun h => h) (R := 1) (duties_later m ρ (recvCell c j))) $$ [Hat] with Hz
  · isplitr; · iapply (know_inv m ρ K (c, .inr (.inr j))); iexact HK
    iexact Hat
  imodintro
  iapply Hk
  isplitl [HO]; · iexists _; iexact HO
  isplitl [Hrows]; · unfold recvPay; iexact Hrows
  iexact Hz

/-- What is left of slot `k` once its send has ended. -/
def Done (c : Dev nD) (k : Fin 8) : sProp 𝕄 :=
  iprop(yFree c k ∗ semVal (sendCell c k) 0 ∗ if tgt c k = c then owns (c : Thread nD τ) (rowsM c) fullShare (blk m ρ c c) else emp)

/-- The wait for the end of the send of slot `k`, if it was sent. -/
theorem send_wait (c : Dev nD) (k : Fin 8) {cd : BitVec 1} (hcd : cd = 1#1 ↔ tgt c k ≠ c)
    {src : cd = 1#1 → Memref sig (c : Thread nD τ).2.kind .vmem S512x256 .bf16}
    {ys : Memref sig (c : Thread nD τ).2.kind .vmem S512x256 .bf16} (hy : ys = ySlot k) {sS : DmaSem sig} (hS : sS = sendS k)
    {hsrc : ∀ h, (src h).view.WordExact} {hdst : cd = 1#1 → ys.view.WordExact}
    {α : Type} {R : Prog (TpuEff nD τ sig (Elt F) Λ₀ .tc) α} {Q : α → sProp 𝕄} :
    iprop(know m ρ K ∗ owesA c 0 ∗ Sent m ρ c k ∗ atPos ER (sendCell c k) 0 ∅ 0)
      ⊢ iprop((iprop(owesA c 0 ∗ Done m ρ c k) -∗ WP c R Q)
        -∗ WP c (if h : cd = 1#1 then
              Prog.lift (.waitDma2 sS (src h) ys (hsrc h) (hdst h))
                >>= fun _ => R
            else R) Q) := by
  subst hS hy
  unfold Sent Done
  by_cases h : tgt c k = c
  · rw [dif_neg (fun e => hcd.mp e h), if_pos h, if_pos h]
    iintro ⟨#HK, HO, ⟨Hy, Hr⟩, Hat⟩ Hk
    imod (Rounds.cell_close ER (Rd m ρ) (Set.mem_univ (K (c, .inr (.inl k)))) (fun h => h) (g := sendCell c k) (R := 0)
      (fun r _ => by
        by_cases hr : r = 0
        · subst hr; rw [duties_send, if_pos h]
        · exact duties_later m ρ (sendCell c k) r (by omega))) $$ [Hat] with Hz
    · isplitr; · iapply (know_inv m ρ K (c, .inr (.inl k))); iexact HK
      iexact Hat
    iapply Hk
    isplitl [HO]; · iexact HO
    isplitl [Hy]; · iexact Hy
    isplitl [Hz]; · iexact Hz
    iexact Hr
  · rw [dif_pos (hcd.mpr h), if_neg h, if_neg h]
    simp only [wp_bind]
    unfold owesA
    iintro ⟨#HK, ⟨%W, HO⟩, Hc, Hat⟩ Hk
    simp only [Prog.lift]
    iapply (Rounds.wp_wait_rest_token 𝒱₀ ER (Rd m ρ) (c : Thread nD τ) none (κ := K (c, .inr (.inl k)))
        (wpE_waitDma2_eq 𝒱₀ (c : Thread nD τ) none Set.univ) (Set.mem_univ _) () (O := 0) (W := W) (R := 0) (m := 0) (T := ∅)
        (by rw [expect_send m ρ c k h, Nat.zero_add])) $$ [Hc HO Hat]
    · isplitr; · iapply (know_inv m ρ K (c, .inr (.inl k))); iexact HK
      isplitl [Hc]; · iexact Hc
      isplitl [HO]; · iexact HO
      isplitr; · rw [MayWait_zero]; iempintro
      iexact Hat
    iintro ⟨HO, Hat, -, Hpay⟩
    ihave Hy := (Entails.of_eq (rest_send m ρ c k h)) $$ Hpay
    rw [wp_ret]
    imod (Rounds.cell_close ER (Rd m ρ) (Set.mem_univ (K (c, .inr (.inl k)))) (fun h => h) (R := 1) (duties_later m ρ (sendCell c k))) $$ [Hat] with Hz
    · isplitr; · iapply (know_inv m ρ K (c, .inr (.inl k))); iexact HK
      iexact Hat
    imodintro
    iapply Hk
    isplitl [HO]; · iexists _; iexact HO
    isplitl [Hy]; · unfold sendPay yFree; iexact Hy
    isplitl [Hz]; · iexact Hz
    iempintro

end Cert.KernelProof

end
-- ==== Proof.Mesh.lean ====
/-
The body's address arithmetic, decided over the mesh: which chunk a copy reads, which device a slot is for, where its
block lands, and which device's block a wait is for.
-/
module

public import proofs.«01_k».proof.Proof.Sched
@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
variable {F : FTy → Type} [FloatOps F]

/-! ## Where a chunk of the weights lies -/

/-- The first chunk of pass `r`, -/
theorem off1_eq (c : Dev nD) (r : Fin 4) : k0_off1 c (BitVec.ofNat 32 r.val) = wOff c ⟨4 * r.val + 0, by omega⟩ := by revert c r; decide +kernel
/-- the second, -/
theorem off2_eq (c : Dev nD) (r : Fin 4) : k0_off2 c (BitVec.ofNat 32 r.val) = wOff c ⟨4 * r.val + 1, by omega⟩ := by revert c r; decide +kernel
/-- the third, -/
theorem off3_eq (c : Dev nD) (r : Fin 4) : k0_off3 c (BitVec.ofNat 32 r.val) = wOff c ⟨4 * r.val + 2, by omega⟩ := by revert c r; decide +kernel
/-- and the fourth. -/
theorem off4_eq (c : Dev nD) (r : Fin 4) : k0_off4 c (BitVec.ofNat 32 r.val) = wOff c ⟨4 * r.val + 3, by omega⟩ := by revert c r; decide +kernel

/-- The source of chunk `q`'s copy, named by an offset equal to the chunk's. -/
theorem src_eq (c : Dev nD) (q : Fin 16) {off : Fin 2 → ℕ} {inb : ∀ a, off a + S1024x512.size a ≤ S4096x2048.size a} (h : off = wOff c q) :
    wH.slice (Rect.unit (s := S4096x2048) off S1024x512.size inb) (fun _ => rfl) = wSrc c q := by subst h; rfl

/-! ## The slots' conditions, receivers and offsets -/

/-- What the body computes for slot `k` of device `c`: the conditions under which it sends the slot, keeps it and awaits
    its send, the receiver, the receive semaphore there, and the rows that a sent and a kept block go to. -/
structure SlotFacts (c : Dev nD) (k : Fin 8) (s₁ s₂ s₃ : BitVec 1) (d : ℕ) (o₁ : Fin 1 → ℕ) (o₂ o₃ : Fin 2 → ℕ) : Prop where
  send : s₁ = 1#1 ↔ tgt c k ≠ c
  keep : s₂ = 1#1 ↔ tgt c k = c
  wait : s₃ = 1#1 ↔ tgt c k ≠ c
  dev : d = (tgt c k).val
  sem : o₁ = ![c.val]
  rows : o₂ = ![512 * c.val, 0]
  own : o₃ = ![512 * c.val, 0]

/-- These are decided over the eight devices. -/
theorem SlotFacts.of {k : Fin 8} {send keep wait : Dev nD → BitVec 1} {dev : Dev nD → ℕ} {sem : Dev nD → Fin 1 → ℕ} {rows own : Dev nD → Fin 2 → ℕ}
    (h : ∀ c, (send c = 1#1 ↔ tgt c k ≠ c) ∧ (keep c = 1#1 ↔ tgt c k = c) ∧ (wait c = 1#1 ↔ tgt c k ≠ c) ∧ dev c = (tgt c k).val
      ∧ sem c = ![c.val] ∧ rows c = ![512 * c.val, 0] ∧ own c = ![512 * c.val, 0]) (c : Dev nD) :
    SlotFacts c k (send c) (keep c) (wait c) (dev c) (sem c) (rows c) (own c) :=
  ⟨(h c).1, (h c).2.1, (h c).2.2.1, (h c).2.2.2.1, (h c).2.2.2.2.1, (h c).2.2.2.2.2.1, (h c).2.2.2.2.2.2⟩

/-- Slot 0. -/
theorem slot0 (c : Dev nD) : SlotFacts c 0 (k0_cond1 c) (k0_cond2 c) (k0_cond17 c) (k0_dev9 c) (k0_off5 c) (k0_off6 c) (k0_off7 c) := .of (by decide +kernel) c
/-- Slot 1. -/
theorem slot1 (c : Dev nD) : SlotFacts c 1 (k0_cond3 c) (k0_cond4 c) (k0_cond18 c) (k0_dev10 c) (k0_off8 c) (k0_off9 c) (k0_off10 c) := .of (by decide +kernel) c
/-- Slot 2. -/
theorem slot2 (c : Dev nD) : SlotFacts c 2 (k0_cond5 c) (k0_cond6 c) (k0_cond19 c) (k0_dev11 c) (k0_off11 c) (k0_off12 c) (k0_off13 c) := .of (by decide +kernel) c
/-- Slot 3. -/
theorem slot3 (c : Dev nD) : SlotFacts c 3 (k0_cond7 c) (k0_cond8 c) (k0_cond20 c) (k0_dev12 c) (k0_off14 c) (k0_off15 c) (k0_off16 c) := .of (by decide +kernel) c
/-- Slot 4. -/
theorem slot4 (c : Dev nD) : SlotFacts c 4 (k0_cond9 c) (k0_cond10 c) (k0_cond21 c) (k0_dev13 c) (k0_off17 c) (k0_off18 c) (k0_off19 c) := .of (by decide +kernel) c
/-- Slot 5. -/
theorem slot5 (c : Dev nD) : SlotFacts c 5 (k0_cond11 c) (k0_cond12 c) (k0_cond22 c) (k0_dev14 c) (k0_off20 c) (k0_off21 c) (k0_off22 c) := .of (by decide +kernel) c
/-- Slot 6. -/
theorem slot6 (c : Dev nD) : SlotFacts c 6 (k0_cond13 c) (k0_cond14 c) (k0_cond23 c) (k0_dev15 c) (k0_off23 c) (k0_off24 c) (k0_off25 c) := .of (by decide +kernel) c
/-- Slot 7. -/
theorem slot7 (c : Dev nD) : SlotFacts c 7 (k0_cond15 c) (k0_cond16 c) (k0_cond24 c) (k0_dev16 c) (k0_off26 c) (k0_off27 c) (k0_off28 c) := .of (by decide +kernel) c

/-! ## The receive semaphores -/

/-- The device whose block the `i`-th wait is for, counting from the device itself. -/
def nbr (c : Dev nD) (i : Fin 8) : Dev nD := ⟨(c.val + i.val) % 8, Nat.mod_lt _ (by decide)⟩
/-- Places further on and devices correspond. -/
def nbrs (c : Dev nD) : Fin 8 ≃ Dev nD :=
  ⟨nbr c, fun j => ⟨(j.val + 8 - c.val) % 8, Nat.mod_lt _ (by decide)⟩, fun i => by revert c i; decide +kernel, fun j => by revert c j; decide +kernel⟩
/-- The seven waits are for other devices, -/
theorem nbr_ne (c : Dev nD) (r : Fin 7) : nbr c ⟨1 + r.val, by omega⟩ ≠ c := by revert c r; decide +kernel
/-- and no place further on is the device itself. -/
theorem nbr_zero (c : Dev nD) : nbr c 0 = c := by revert c; decide +kernel
/-- The `r`-th wait is on that device's receive semaphore. -/
theorem off29_eq (c : Dev nD) (r : Fin 7) : k0_off29 c (BitVec.ofNat 32 (1 + r.val)) = ![(nbr c ⟨1 + r.val, by omega⟩).val] := by revert c r; decide +kernel

/-- A receive semaphore, named by an offset equal to a device's number. -/
theorem recv_sem (j : Dev nD) {off : Fin 1 → ℕ} {inb : ∀ a, off a + S1.size a ≤ S8.size a} (h : off = ![j.val]) :
    ((SemArray.slice cc0_scratch6 (Rect.unit (s := S8) off S1.size inb)).squeeze S_ squeezes_S1_S_ : DmaSems sig S_).sem = recvS j := by
  subst h; revert j; decide +kernel

end Cert.KernelProof

end
-- ==== Proof.Parts1.lean ====
/-
The first pieces of the body: the row block's and the first six chunks' copies are started, the scales read, the
barrier passed and the row block awaited.
-/
module

public import proofs.«01_k».proof.Proof.Steps2
public import proofs.«01_k».proof.Proof.Mesh
public import Idealize.ShloMosaic.Lib.Pipeline.Value
@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KIx → ℕ)

/-- A piece of the body, at the buffers and semaphores the launch binds. -/
abbrev onBufs {β : Type 1} (f : (arg0 : Memref sig .tc .hbm S512x4096 .f32) → arg0.IsWhole → (arg1 : Memref sig .tc .hbm S4096x2048 .f32) → arg1.IsWhole
    → (arg2 : Memref sig .tc .smem S1 .f32) → arg2.IsWhole → (arg3 : Memref sig .tc .smem S1 .f32) → arg3.IsWhole
    → (arg4 : Memref sig .tc .vmem S4096x256 .bf16) → arg4.IsWhole → (arg5 : Memref sig .tc .vmem S512x4096 .f32) → arg5.IsWhole
    → (arg6 : Memref sig .tc .vmem S8x1024x512 .f32) → arg6.IsWhole → (arg7 : Memref sig .tc .vmem S8x512x256 .bf16) → arg7.IsWhole
    → DmaSems sig S_ → DmaSems sig S8 → DmaSems sig S8 → DmaSems sig S8 → β) : β :=
  f xH (Memref.isWhole_whole _) wH (Memref.isWhole_whole _) sxM (Memref.isWhole_whole _) swM (Memref.isWhole_whole _) oM (Memref.isWhole_whole _)
    xM (Memref.isWhole_whole _) wM (Memref.isWhole_whole _) yM (Memref.isWhole_whole _) cc0_scratch3 cc0_scratch4 cc0_scratch5 cc0_scratch6

set_option maxRecDepth 65536

/-- Whatever sends are still owed, they lie above the copies' level. -/
theorem above1 (c : Dev nD) (n : ℕ) : Above 1 (Osl c n) := (above_Osl c n).mono (by decide)

/-! ## What the payloads are -/

section Payloads
variable {xq : FVec F S512x4096 .fp8e4m3} {a b : FVec F S512x512 .f32} {s : F .f32} {v : Vec F S1x1024x512 .f32} {w : Vec F S1024x512 .f32}
  (h : shapeCast S1024x512 v shapeCasts_S1x1024x512_S1024x512 = w)
include h

/-- The kernel's printed expressions, one for each of the values that a pass makes: a first product, -/
theorem pay3_eq : k0_pay3 xq v = prod0 xq w := by subst h; rfl
/-- the rounding of a chunk, -/
theorem pay4_eq : k0_pay4 v = truncf .fp8e5m2 w bitsLt_fp8e5m2_f32 := by subst h; rfl
/-- the third product added, -/
theorem pay7_eq : k0_pay7 xq a v = addf a (prod2 xq w) := by subst h; rfl
/-- the fourth added, and the tile finished, -/
theorem pay8_eq : k0_pay8 s xq a v = finish s (addf a (prod3 xq w)) := by subst h; rfl
/-- its left half. -/
theorem pay9_eq : shapeCast S512x256 (k0_pay9 s xq a v) shapeCasts_S1x512x256_S512x256 = lo (finish s (addf a (prod3 xq w))) := by
  subst h; exact shapeCast_shapeCast _ _ _
/-- The second pass: the first product, -/
theorem pay13_eq : k0_pay13 xq v = prod0 xq w := by subst h; rfl
/-- the second added, -/
theorem pay14_eq : k0_pay14 xq a v = addf a (prod1 xq w) := by subst h; rfl
/-- the third added, -/
theorem pay15_eq : k0_pay15 xq a v = addf a (prod2 xq w) := by subst h; rfl
/-- the tile finished, -/
theorem pay16_eq : k0_pay16 s xq a v = finish s (addf a (prod3 xq w)) := by subst h; rfl
/-- its left half. -/
theorem pay17_eq : k0_pay17 s xq a v = shapeCast S1x512x256 (lo (finish s (addf a (prod3 xq w)))) shapeCasts_S512x256_S1x512x256 := by subst h; rfl
/-- The third pass: the first product, -/
theorem pay21_eq : k0_pay21 xq v = prod0 xq w := by subst h; rfl
/-- the second added, -/
theorem pay22_eq : k0_pay22 xq a v = addf a (prod1 xq w) := by subst h; rfl
/-- the third added, -/
theorem pay23_eq : k0_pay23 xq a v = addf a (prod2 xq w) := by subst h; rfl
/-- the left half of the finished tile, -/
theorem pay25_eq : shapeCast S512x256 (k0_pay25 s xq a v) shapeCasts_S1x512x256_S512x256 = lo (finish s (addf a (prod3 xq w))) := by
  subst h; exact shapeCast_shapeCast _ _ _
/-- its right half. -/
theorem pay27_eq : k0_pay27 s xq a v = hi (finish s (addf a (prod3 xq w))) := by subst h; rfl
/-- The fourth pass: the first product, -/
theorem pay30_eq : k0_pay30 xq v = prod0 xq w := by subst h; rfl
/-- the second product, -/
theorem pay31_eq : k0_pay31 xq v = prod1 xq w := by subst h; rfl
/-- the two and the third added, -/
theorem pay32_eq : k0_pay32 xq a b v = addf (addf a b) (prod2 xq w) := by subst h; rfl
/-- the tile finished, -/
theorem pay33_eq : k0_pay33 s xq a v = finish s (addf a (prod3 xq w)) := by subst h; rfl
/-- its left half. -/
theorem pay34_eq : shapeCast S512x256 (k0_pay34 s xq a v) shapeCasts_S1x512x256_S512x256 = lo (finish s (addf a (prod3 xq w))) := by
  subst h; exact shapeCast_shapeCast _ _ _
end Payloads

/-! ## The pieces -/

/-- The start: the copy of `x` and the first copies of the weights go off, and the scales are read. -/
theorem part1 (c : Dev nD) (Q : _ → sProp 𝕄) :
    iprop(xFree c ∗ xTok m c ∗ wFree c 0 ∗ wTok m c 0)
      ⊢ iprop((∀ v2 v12 v30 c4 v31 c1, iprop(xFly m c ∗ wFly m c 0 0) -∗ Q ⟨c, v2, v12, v30, c4, v31, c1⟩)
        -∗ WP c (onBufs (k0_part1 (F := F))) Q) := by
  rw [k0_part1_eq_skeleton]; unfold k0_part1_skel onBufs; simp only [wp_bind, wp_pure]
  iintro ⟨Hx, Hxt, Hw0, Ht0⟩ Hk
  simp only [Prog.lift]
  rw [wp_deviceId, wp_ret]; imodintro
  iapply (x_start m c) $$ [Hx Hxt]
  · isplitl [Hx] <;> iassumption
  iintro Hx
  iapply (w_start m c 0 0 (src_eq c 0 (off1_eq c 0)) rfl rfl) $$ [Hw0 Ht0]
  · isplitl [Hw0] <;> iassumption
  iintro Hw
  imodintro
  iapply Hk
  isplitl [Hx] <;> iassumption

/-- Chunks 1 and 2 are started. -/
theorem part2 (c : Dev nD) (v12 v30 c4 v31 c1) (Q : _ → sProp 𝕄) :
    iprop(wFree c 1 ∗ wTok m c 1 ∗ wFree c 2 ∗ wTok m c 2)
      ⊢ iprop((∀ v64 d4 d0, iprop(wFly m c 1 1 ∗ wFly m c 2 2) -∗ Q ⟨v64, d4, d0⟩) -∗ WP c (onBufs (k0_part2 (F := F)) c v12 v30 c4 v31 c1) Q) := by
  rw [k0_part2_eq_skeleton]; unfold k0_part2_skel onBufs; simp only [wp_bind, wp_pure]
  iintro ⟨Hw1, Ht1, Hw2, Ht2⟩ Hk
  iapply (w_start m c 1 1 (src_eq c 1 (off2_eq c 0)) rfl rfl) $$ [Hw1 Ht1]
  · isplitl [Hw1] <;> iassumption
  iintro Hw1
  iapply (w_start m c 2 2 (src_eq c 2 (off3_eq c 0)) rfl rfl) $$ [Hw2 Ht2]
  · isplitl [Hw2] <;> iassumption
  iintro Hw2
  imodintro
  iapply Hk
  isplitl [Hw1] <;> iassumption

/-- Chunks 3 and 4 are started. -/
theorem part3 (c : Dev nD) (v12 v64 c4 c0) (Q : _ → sProp 𝕄) :
    iprop(wFree c 3 ∗ wTok m c 3 ∗ wFree c 4 ∗ wTok m c 4)
      ⊢ iprop((∀ v98, iprop(wFly m c 3 3 ∗ wFly m c 4 4) -∗ Q v98) -∗ WP c (onBufs (k0_part3 (F := F)) c v12 v64 c4 c0) Q) := by
  rw [k0_part3_eq_skeleton]; unfold k0_part3_skel onBufs; simp only [wp_bind, wp_pure]
  iintro ⟨Hw3, Ht3, Hw4, Ht4⟩ Hk
  iapply (w_start m c 3 3 (src_eq c 3 (off4_eq c 0)) rfl rfl) $$ [Hw3 Ht3]
  · isplitl [Hw3] <;> iassumption
  iintro Hw3
  iapply (w_start m c 4 4 (src_eq c 4 (off1_eq c 1)) rfl rfl) $$ [Hw4 Ht4]
  · isplitl [Hw4] <;> iassumption
  iintro Hw4
  imodintro
  iapply Hk
  isplitl [Hw3] <;> iassumption

/-- What a signal to device `d` needs: its token, and row block `d` of this device's output. -/
def BarTok (c d : Dev nD) : sProp 𝕄 := iprop(dutyTok ER (barCell d) 0 c ∗ barPay d c)

/-- Chunk 5 is started, the scales are read, and the first three devices signalled. -/
theorem part4 (c : Dev nD) (v98) (Q : _ → sProp 𝕄) :
    iprop(know m ρ K ∗ wFree c 5 ∗ wTok m c 5 ∗ sxAt m ρ c ∗ swAt m ρ c ∗ owesA c (Obar c 8) ∗ BarTok c 0 ∗ BarTok c 1 ∗ BarTok c 2)
      ⊢ iprop((∀ v125, iprop(wFly m c 5 5 ∗ sxAt m ρ c ∗ swAt m ρ c ∗ owesA c (Obar c 5)) -∗ Q ⟨scaleVal m ρ c, SemArray.scalar (sig.barrier 0 rfl), v125⟩) -∗ WP c (onBufs (k0_part4 (F := F)) c v98) Q) := by
  rw [k0_part4_eq_skeleton]; unfold k0_part4_skel onBufs; simp only [wp_bind, wp_pure]
  iintro ⟨#HK, Hw5, Ht5, Hsx, Hsw, HO, HB0, HB1, HB2⟩ Hk
  iapply (w_start m c 5 5 (src_eq c 5 (off2_eq c 1)) rfl rfl) $$ [Hw5 Ht5]
  · isplitl [Hw5] <;> iassumption
  iintro Hw5
  iapply (sx_load m ρ c) $$ Hsx
  iintro Hsx
  iapply (sw_load m ρ c) $$ Hsw
  iintro Hsw
  unfold BarTok
  iapply (bar_signal m ρ K c 0 _ rfl (i := 7) rfl rfl) $$ [HO HB0]
  · isplitr; · iexact HK
    isplitl [HO] <;> iassumption
  iintro HO
  iapply (bar_signal m ρ K c 1 _ rfl (i := 6) rfl rfl) $$ [HO HB1]
  · isplitr; · iexact HK
    isplitl [HO] <;> iassumption
  iintro HO
  iapply (bar_signal m ρ K c 2 _ rfl (i := 5) rfl rfl) $$ [HO HB2]
  · isplitr; · iexact HK
    isplitl [HO] <;> iassumption
  iintro HO
  rw [show k0_pay1 (sxVal m ρ c) (swVal m ρ c) = scaleVal m ρ c from rfl]
  imodintro
  iapply Hk
  isplitl [Hw5]; · iexact Hw5
  isplitl [Hsx]; · iexact Hsx
  isplitl [Hsw] <;> iassumption

/-- The other five devices are signalled, the barrier is passed and the row block awaited and read. -/
theorem part5 (c : Dev nD) (v12 v125) (Q : _ → sProp 𝕄) :
    iprop(know m ρ K ∗ owesA c (Obar c 5) ∗ BarTok c 3 ∗ BarTok c 4 ∗ BarTok c 5 ∗ BarTok c 6 ∗ BarTok c 7 ∗ cred (tallyAt (barCell c) () 8) ∗ atPos ER (barCell c) 0 ∅ 0 ∗ xFly m c)
      ⊢ iprop((iprop(owesA c (Osl c 8) ∗ semVal (barCell c) 0 ∗ (bigSep Finset.univ fun d => barPay c d) ∗ xFull m c) -∗ Q (xqVal m c)) -∗ WP c (onBufs (k0_part5 (F := F)) v12 (SemArray.scalar (sig.barrier 0 rfl)) v125) Q) := by
  rw [k0_part5_eq_skeleton]; unfold k0_part5_skel onBufs; simp only [wp_bind, wp_pure]
  iintro ⟨#HK, HO, HB3, HB4, HB5, HB6, HB7, Hc, Hat, Hx⟩ Hk
  unfold BarTok
  iapply (bar_signal m ρ K c 3 _ rfl (i := 4) rfl rfl) $$ [HO HB3]
  · isplitr; · iexact HK
    isplitl [HO] <;> iassumption
  iintro HO
  iapply (bar_signal m ρ K c 4 _ rfl (i := 3) rfl rfl) $$ [HO HB4]
  · isplitr; · iexact HK
    isplitl [HO] <;> iassumption
  iintro HO
  iapply (bar_signal m ρ K c 5 _ rfl (i := 2) rfl rfl) $$ [HO HB5]
  · isplitr; · iexact HK
    isplitl [HO] <;> iassumption
  iintro HO
  iapply (bar_signal m ρ K c 6 _ rfl (i := 1) rfl rfl) $$ [HO HB6]
  · isplitr; · iexact HK
    isplitl [HO] <;> iassumption
  iintro HO
  iapply (bar_signal m ρ K c 7 _ rfl (i := 0) rfl rfl) $$ [HO HB7]
  · isplitr; · iexact HK
    isplitl [HO] <;> iassumption
  iintro HO
  iapply (bar_wait m ρ K c rfl) $$ [Hc HO Hat]
  · isplitr; · iexact HK
    isplitl [Hc]; · iexact Hc
    isplitl [HO] <;> iassumption
  iintro ⟨HO, Hz, Hrows⟩
  iapply (x_wait m ρ K c (above1 c 8)) $$ [Hx HO]
  · isplitr; · iexact HK
    isplitl [Hx] <;> iassumption
  iintro ⟨Hx, HO⟩
  iapply (x_load m c) $$ Hx
  iintro Hx
  rw [show k0_pay2 (xBlk m c) = xqVal m c from rfl]
  imodintro
  iapply Hk
  isplitl [HO]; · iexact HO
  isplitl [Hz]; · iexact Hz
  isplitl [Hrows] <;> iassumption

/-- Chunk 0 is awaited and read, chunk 6 started. -/
theorem part6 (c : Dev nD) (v12) (Q : _ → sProp 𝕄) :
    iprop(know m ρ K ∗ owesA c (Osl c 8) ∗ wFly m c 0 0 ∗ wFree c 6 ∗ wTok m c 6)
      ⊢ iprop((∀ v178 v179 v180, iprop(owesA c (Osl c 8) ∗ wFree c 0 ∗ wFly m c 6 6) -∗ Q ⟨acc0 m c 0, v178, v179, v180⟩) -∗ WP c (onBufs (k0_part6 (F := F)) c v12 (xqVal m c)) Q) := by
  rw [k0_part6_eq_skeleton]; unfold k0_part6_skel onBufs; simp only [wp_bind, wp_pure]
  iintro ⟨#HK, HO, Hw0, Hw6, Ht6⟩ Hk
  iapply (w_wait m ρ K c 0 0 (above1 c 8) rfl rfl) $$ [Hw0 HO]
  · isplitr; · iexact HK
    isplitl [Hw0] <;> iassumption
  iintro ⟨Hw0, HO⟩
  iapply (w_start m c 6 6 (src_eq c 6 (off3_eq c 1)) rfl rfl) $$ [Hw6 Ht6]
  · isplitl [Hw6] <;> iassumption
  iintro Hw6
  iapply (w_load m c 0 0 rfl) $$ Hw0
  iintro %v %hv Hw0
  rw [show k0_pay3 (xqVal m c) v = acc0 m c 0 from pay3_eq hv]
  imodintro
  iapply Hk
  isplitl [HO]; · iexact HO
  isplitl [Hw0] <;> iassumption

/-- Chunk 1 is awaited and read, chunk 7 started. -/
theorem part7 (c : Dev nD) (v12 v178 v179 v180) (Q : _ → sProp 𝕄) :
    iprop(know m ρ K ∗ owesA c (Osl c 8) ∗ wFly m c 1 1 ∗ wFree c 7 ∗ wTok m c 7)
      ⊢ iprop((iprop(owesA c (Osl c 8) ∗ wFree c 1 ∗ wFly m c 7 7) -∗ Q ⟨truncf .fp8e5m2 (wChunk m c 1) bitsLt_fp8e5m2_f32, k0_pay5 (xqVal m c), constant S512x512 .f32 0x00000000#32⟩) -∗ WP c (onBufs (k0_part7 (F := F)) c v12 (xqVal m c) v178 v179 v180) Q) := by
  rw [k0_part7_eq_skeleton]; unfold k0_part7_skel onBufs; simp only [wp_bind, wp_pure]
  iintro ⟨#HK, HO, Hw1, Hw7, Ht7⟩ Hk
  iapply (w_wait m ρ K c 1 1 (above1 c 8) rfl rfl) $$ [Hw1 HO]
  · isplitr; · iexact HK
    isplitl [Hw1] <;> iassumption
  iintro ⟨Hw1, HO⟩
  iapply (w_start m c 7 7 (src_eq c 7 (off4_eq c 1)) rfl rfl) $$ [Hw7 Ht7]
  · isplitl [Hw7] <;> iassumption
  iintro Hw7
  iapply (w_load m c 1 1 rfl) $$ Hw1
  iintro %v %hv Hw1
  rw [pay4_eq hv]
  imodintro
  iapply Hk
  isplitl [HO]; · iexact HO
  isplitl [Hw1] <;> iassumption

/-- Chunk 2 is awaited. -/
theorem part8 (c : Dev nD) (v12) (Q : _ → sProp 𝕄) :
    iprop(know m ρ K ∗ owesA c (Osl c 8) ∗ wFly m c 2 2)
      ⊢ iprop((iprop(owesA c (Osl c 8) ∗ wFull m c 2 2) -∗ Q (acc1 m c 0 1)) -∗ WP c (onBufs (k0_part8 (F := F)) c v12 (acc0 m c 0) (truncf .fp8e5m2 (wChunk m c 1) bitsLt_fp8e5m2_f32) (k0_pay5 (xqVal m c)) (constant S512x512 .f32 0x00000000#32)) Q) := by
  rw [k0_part8_eq_skeleton]; unfold k0_part8_skel onBufs; simp only [wp_bind, wp_pure]
  iintro ⟨#HK, HO, Hw2⟩ Hk
  iapply (w_wait m ρ K c 2 2 (above1 c 8) rfl rfl) $$ [Hw2 HO]
  · isplitr; · iexact HK
    isplitl [Hw2] <;> iassumption
  iintro ⟨Hw2, HO⟩
  rw [show k0_pay6 (acc0 m c 0) (truncf .fp8e5m2 (wChunk m c 1) bitsLt_fp8e5m2_f32) (k0_pay5 (xqVal m c)) (constant S512x512 .f32 0x00000000#32) = acc1 m c 0 1 from rfl]
  imodintro
  iapply Hk
  isplitl [HO] <;> iassumption

/-- Chunk 8 is started, chunk 2 read and chunk 3 awaited. -/
theorem part9 (c : Dev nD) (v12) (Q : _ → sProp 𝕄) :
    iprop(know m ρ K ∗ owesA c (Osl c 8) ∗ wFree c 0 ∗ wTok m c 8 ∗ wFull m c 2 2 ∗ wFly m c 3 3)
      ⊢ iprop((∀ v275 v276 v277 v280, iprop(owesA c (Osl c 8) ∗ wFly m c 0 8 ∗ wFree c 2 ∗ wFull m c 3 3) -∗ Q ⟨acc2 m c 0 1 2, v275, v276, v277, v280⟩) -∗ WP c (onBufs (k0_part9 (F := F)) c v12 (xqVal m c) (acc1 m c 0 1)) Q) := by
  rw [k0_part9_eq_skeleton]; unfold k0_part9_skel onBufs; simp only [wp_bind, wp_pure]
  iintro ⟨#HK, HO, Hw0, Ht8, Hw2, Hw3⟩ Hk
  iapply (w_start m c 0 8 (src_eq c 8 (off1_eq c 2)) rfl rfl) $$ [Hw0 Ht8]
  · isplitl [Hw0] <;> iassumption
  iintro Hw0
  iapply (w_load m c 2 2 rfl) $$ Hw2
  iintro %v %hv Hw2
  iapply (w_wait m ρ K c 3 3 (above1 c 8) rfl rfl) $$ [Hw3 HO]
  · isplitr; · iexact HK
    isplitl [Hw3] <;> iassumption
  iintro ⟨Hw3, HO⟩
  rw [show k0_pay7 (xqVal m c) (acc1 m c 0 1) v = acc2 m c 0 1 2 from pay7_eq hv]
  imodintro
  iapply Hk
  isplitl [HO]; · iexact HO
  isplitl [Hw0]; · iexact Hw0
  isplitl [Hw2] <;> iassumption

/-- Chunk 9 is started, chunk 3 read and the first pass's first half put in slot 0. -/
theorem part10 (c : Dev nD) (v12 v275 v276 v277 v280) (Q : _ → sProp 𝕄) :
    iprop(wFree c 1 ∗ wTok m c 9 ∗ wFull m c 3 3 ∗ yFree c 0)
      ⊢ iprop((∀ v316, iprop(wFly m c 1 9 ∗ wFree c 3 ∗ yAt c 0 (yv m ρ c 0)) -∗ Q ⟨tile m ρ c 0, v316⟩) -∗ WP c (onBufs (k0_part10 (F := F)) c v12 (scaleVal m ρ c) (xqVal m c) (acc2 m c 0 1 2) v275 v276 v277 v280) Q) := by
  rw [k0_part10_eq_skeleton]; unfold k0_part10_skel onBufs; simp only [wp_bind, wp_pure]
  iintro ⟨Hw1, Ht9, Hw3, Hy0⟩ Hk
  iapply (w_start m c 1 9 (src_eq c 9 (off2_eq c 2)) rfl rfl) $$ [Hw1 Ht9]
  · isplitl [Hw1] <;> iassumption
  iintro Hw1
  iapply (w_load m c 3 3 rfl) $$ Hw3
  iintro %v %hv Hw3
  iapply (y_peek c 0 rfl) $$ Hy0
  iintro %u0 Hy0
  iapply (y_store c 0 (X := yv m ρ c 0) rfl (pay9_eq hv)) $$ Hy0
  iintro Hy0
  rw [show k0_pay8 (scaleVal m ρ c) (xqVal m c) (acc2 m c 0 1 2) v = tile m ρ c 0 from pay8_eq hv]
  imodintro
  iapply Hk
  isplitl [Hw1]; · iexact Hw1
  isplitl [Hw3] <;> iassumption

end Cert.KernelProof

end
-- ==== Proof.Parts2.lean ====
/-
The middle pieces of the body: the first two passes' halves are sent, the second and third passes computed.
-/
module

public import proofs.«01_k».proof.Proof.Parts1
@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KIx → ℕ)

set_option maxRecDepth 65536

/-- Slot 0 is sent, the first pass's second half put in slot 1 and sent. -/
theorem part11 (c : Dev nD) (v2 v12 v316) (Q : _ → sProp 𝕄) :
    iprop(know m ρ K ∗ yAt c 0 (yv m ρ c 0) ∗ owesA c (Osl c 8) ∗ Slot c 0 ∗ yFree c 1 ∗ Slot c 1)
      ⊢ iprop((iprop(owesA c (Osl c 6) ∗ Sent m ρ c 0 ∗ Sent m ρ c 1) -∗ Q ⟨⟩) -∗ WP c (onBufs (k0_part11 (F := F)) c v2 v12 (tile m ρ c 0) v316) Q) := by
  rw [k0_part11_eq_skeleton]; unfold k0_part11_skel onBufs; simp only [wp_bind, wp_pure]
  iintro ⟨#HK, Hy0, HO, HS0, Hy1, HS1⟩ Hk
  iapply (slot_out m ρ K c 0 (n := 7) rfl (slot0 c).send (slot0 c).keep (fun _ => Fin.ext (slot0 c).dev) rfl (fun _ => rows_eq c (slot0 c).rows) rfl
    (fun _ => recv_sem c (slot0 c).sem) (slot0 c).own rfl (fun _ => rfl)) $$ [Hy0 HO HS0]
  · isplitr; · iexact HK
    isplitl [Hy0]; · iexact Hy0
    isplitl [HO] <;> iassumption
  iintro ⟨HO, HS0⟩
  simp only [wp_bind, wp_pure]
  iapply (y_peek c 1 rfl) $$ Hy1
  iintro %u1 Hy1
  iapply (y_store c 1 (X := yv m ρ c 1) rfl (shapeCast_shapeCast _ _ _)) $$ Hy1
  iintro Hy1
  iapply (slot_out m ρ K c 1 (n := 6) rfl (slot1 c).send (slot1 c).keep (fun _ => Fin.ext (slot1 c).dev) rfl (fun _ => rows_eq c (slot1 c).rows) rfl
    (fun _ => recv_sem c (slot1 c).sem) (slot1 c).own rfl (fun _ => rfl)) $$ [Hy1 HO HS1]
  · isplitr; · iexact HK
    isplitl [Hy1]; · iexact Hy1
    isplitl [HO] <;> iassumption
  iintro ⟨HO, HS1⟩
  simp only [wp_bind, wp_pure]
  imodintro
  iapply Hk
  isplitl [HO]; · iexact HO
  isplitl [HS0] <;> iassumption

/-- Chunk 4 is awaited. -/
theorem part12 (c : Dev nD) (v12) (Q : _ → sProp 𝕄) :
    iprop(know m ρ K ∗ owesA c (Osl c 6) ∗ wFly m c 4 4)
      ⊢ iprop((iprop(owesA c (Osl c 6) ∗ wFull m c 4 4) -∗ Q ⟨⟩) -∗ WP c (onBufs (k0_part12 (F := F)) c v12) Q) := by
  rw [k0_part12_eq_skeleton]; unfold k0_part12_skel onBufs; simp only [wp_bind, wp_pure]
  iintro ⟨#HK, HO, Hw4⟩ Hk
  iapply (w_wait m ρ K c 4 4 (above1 c 6) rfl rfl) $$ [Hw4 HO]
  · isplitr; · iexact HK
    isplitl [Hw4] <;> iassumption
  iintro ⟨Hw4, HO⟩
  imodintro
  iapply Hk
  isplitl [HO] <;> iassumption

/-- Chunk 10 is started, chunk 4 read, chunk 5 awaited. -/
theorem part13 (c : Dev nD) (v12) (Q : _ → sProp 𝕄) :
    iprop(know m ρ K ∗ owesA c (Osl c 6) ∗ wFree c 2 ∗ wTok m c 10 ∗ wFull m c 4 4 ∗ wFly m c 5 5)
      ⊢ iprop((∀ v415, iprop(owesA c (Osl c 6) ∗ wFly m c 2 10 ∗ wFree c 4 ∗ wFull m c 5 5) -∗ Q ⟨acc0 m c 4, v415⟩) -∗ WP c (onBufs (k0_part13 (F := F)) c v12 (xqVal m c)) Q) := by
  rw [k0_part13_eq_skeleton]; unfold k0_part13_skel onBufs; simp only [wp_bind, wp_pure]
  iintro ⟨#HK, HO, Hw2, Ht10, Hw4, Hw5⟩ Hk
  iapply (w_start m c 2 10 (src_eq c 10 (off3_eq c 2)) rfl rfl) $$ [Hw2 Ht10]
  · isplitl [Hw2] <;> iassumption
  iintro Hw2
  iapply (w_load m c 4 4 rfl) $$ Hw4
  iintro %v %hv Hw4
  iapply (w_wait m ρ K c 5 5 (above1 c 6) rfl rfl) $$ [Hw5 HO]
  · isplitr; · iexact HK
    isplitl [Hw5] <;> iassumption
  iintro ⟨Hw5, HO⟩
  rw [show k0_pay13 (xqVal m c) v = acc0 m c 4 from pay13_eq hv]
  imodintro
  iapply Hk
  isplitl [HO]; · iexact HO
  isplitl [Hw2]; · iexact Hw2
  isplitl [Hw4] <;> iassumption

/-- Chunk 11 is started, chunk 5 read, chunk 6 awaited. -/
theorem part14 (c : Dev nD) (v12 v415) (Q : _ → sProp 𝕄) :
    iprop(know m ρ K ∗ owesA c (Osl c 6) ∗ wFree c 3 ∗ wTok m c 11 ∗ wFull m c 5 5 ∗ wFly m c 6 6)
      ⊢ iprop((∀ v445 d4 v446 d1, iprop(owesA c (Osl c 6) ∗ wFly m c 3 11 ∗ wFree c 5 ∗ wFull m c 6 6) -∗ Q ⟨acc1 m c 4 5, v445, d4, v446, d1⟩) -∗ WP c (onBufs (k0_part14 (F := F)) c v12 (xqVal m c) (acc0 m c 4) v415) Q) := by
  rw [k0_part14_eq_skeleton]; unfold k0_part14_skel onBufs; simp only [wp_bind, wp_pure]
  iintro ⟨#HK, HO, Hw3, Ht11, Hw5, Hw6⟩ Hk
  iapply (w_start m c 3 11 (src_eq c 11 (off4_eq c 2)) rfl rfl) $$ [Hw3 Ht11]
  · isplitl [Hw3] <;> iassumption
  iintro Hw3
  iapply (w_load m c 5 5 rfl) $$ Hw5
  iintro %v %hv Hw5
  iapply (w_wait m ρ K c 6 6 (above1 c 6) rfl rfl) $$ [Hw6 HO]
  · isplitr; · iexact HK
    isplitl [Hw6] <;> iassumption
  iintro ⟨Hw6, HO⟩
  rw [show k0_pay14 (xqVal m c) (acc0 m c 4) v = acc1 m c 4 5 from pay14_eq hv]
  imodintro
  iapply Hk
  isplitl [HO]; · iexact HO
  isplitl [Hw3]; · iexact Hw3
  isplitl [Hw5] <;> iassumption

/-- Chunk 12 is started, chunk 6 read. -/
theorem part15 (c : Dev nD) (v12 v445 d4 v446 d1) (Q : _ → sProp 𝕄) :
    iprop(wFree c 4 ∗ wTok m c 12 ∗ wFull m c 6 6)
      ⊢ iprop((iprop(wFly m c 4 12 ∗ wFree c 6) -∗ Q (acc2 m c 4 5 6)) -∗ WP c (onBufs (k0_part15 (F := F)) c v12 (xqVal m c) (acc1 m c 4 5) v445 d4 v446 d1) Q) := by
  rw [k0_part15_eq_skeleton]; unfold k0_part15_skel onBufs; simp only [wp_bind, wp_pure]
  iintro ⟨Hw4, Ht12, Hw6⟩ Hk
  iapply (w_start m c 4 12 (src_eq c 12 (off1_eq c 3)) rfl rfl) $$ [Hw4 Ht12]
  · isplitl [Hw4] <;> iassumption
  iintro Hw4
  iapply (w_load m c 6 6 rfl) $$ Hw6
  iintro %v %hv Hw6
  rw [show k0_pay15 (xqVal m c) (acc1 m c 4 5) v = acc2 m c 4 5 6 from pay15_eq hv]
  imodintro
  iapply Hk
  isplitl [Hw4] <;> iassumption

/-- Chunk 7 is awaited and read, chunk 13 started. -/
theorem part16 (c : Dev nD) (v12) (Q : _ → sProp 𝕄) :
    iprop(know m ρ K ∗ owesA c (Osl c 6) ∗ wFly m c 7 7 ∗ wFree c 5 ∗ wTok m c 13 ∗ yFree c 2)
      ⊢ iprop((iprop(owesA c (Osl c 6) ∗ wFree c 7 ∗ wFly m c 5 13 ∗ yFree c 2) -∗ Q ⟨tile m ρ c 1, shapeCast S1x512x256 (lo (tile m ρ c 1)) shapeCasts_S512x256_S1x512x256⟩) -∗ WP c (onBufs (k0_part16 (F := F)) c v12 (scaleVal m ρ c) (xqVal m c) (acc2 m c 4 5 6)) Q) := by
  rw [k0_part16_eq_skeleton]; unfold k0_part16_skel onBufs; simp only [wp_bind, wp_pure]
  iintro ⟨#HK, HO, Hw7, Hw5, Ht13, Hy2⟩ Hk
  iapply (w_wait m ρ K c 7 7 (above1 c 6) rfl rfl) $$ [Hw7 HO]
  · isplitr; · iexact HK
    isplitl [Hw7] <;> iassumption
  iintro ⟨Hw7, HO⟩
  iapply (w_start m c 5 13 (src_eq c 13 (off2_eq c 3)) rfl rfl) $$ [Hw5 Ht13]
  · isplitl [Hw5] <;> iassumption
  iintro Hw5
  iapply (w_load m c 7 7 rfl) $$ Hw7
  iintro %v %hv Hw7
  iapply (y_peek c 2 rfl) $$ Hy2
  iintro %u2 Hy2
  rw [show k0_pay16 (scaleVal m ρ c) (xqVal m c) (acc2 m c 4 5 6) v = tile m ρ c 1 from pay16_eq hv, show k0_pay17 (scaleVal m ρ c) (xqVal m c) (acc2 m c 4 5 6) v = shapeCast S1x512x256 (lo (tile m ρ c 1)) shapeCasts_S512x256_S1x512x256 from pay17_eq hv]
  imodintro
  iapply Hk
  isplitl [HO]; · iexact HO
  isplitl [Hw7]; · iexact Hw7
  isplitl [Hw5] <;> iassumption

/-- The second pass's halves are put in slots 2 and 3, and slot 2 sent. -/
theorem part17 (c : Dev nD) (v2 v12) (Q : _ → sProp 𝕄) :
    iprop(know m ρ K ∗ owesA c (Osl c 6) ∗ yFree c 2 ∗ Slot c 2 ∗ yFree c 3)
      ⊢ iprop((∀ v543 v544 v545 v548, iprop(owesA c (Osl c 5) ∗ Sent m ρ c 2 ∗ yAt c 3 (yv m ρ c 3)) -∗ Q ⟨v543, v544, v545, v548⟩) -∗ WP c (onBufs (k0_part17 (F := F)) c v2 v12 (tile m ρ c 1) (shapeCast S1x512x256 (lo (tile m ρ c 1)) shapeCasts_S512x256_S1x512x256)) Q) := by
  rw [k0_part17_eq_skeleton]; unfold k0_part17_skel onBufs; simp only [wp_bind, wp_pure]
  iintro ⟨#HK, HO, Hy2, HS2, Hy3⟩ Hk
  iapply (y_store c 2 (X := yv m ρ c 2) rfl (shapeCast_shapeCast _ _ _)) $$ Hy2
  iintro Hy2
  iapply (slot_out m ρ K c 2 (n := 5) rfl (slot2 c).send (slot2 c).keep (fun _ => Fin.ext (slot2 c).dev) rfl (fun _ => rows_eq c (slot2 c).rows) rfl
    (fun _ => recv_sem c (slot2 c).sem) (slot2 c).own rfl (fun _ => rfl)) $$ [Hy2 HO HS2]
  · isplitr; · iexact HK
    isplitl [Hy2]; · iexact Hy2
    isplitl [HO] <;> iassumption
  iintro ⟨HO, HS2⟩
  simp only [wp_bind, wp_pure]
  iapply (y_peek c 3 rfl) $$ Hy3
  iintro %u3 Hy3
  iapply (y_store c 3 (X := yv m ρ c 3) rfl (shapeCast_shapeCast _ _ _)) $$ Hy3
  iintro Hy3
  imodintro
  iapply Hk
  isplitl [HO]; · iexact HO
  isplitl [HS2] <;> iassumption

/-- Slot 3 is sent, chunk 8 awaited. -/
theorem part18 (c : Dev nD) (v2 v12 v543 v544 v545 v548) (Q : _ → sProp 𝕄) :
    iprop(know m ρ K ∗ owesA c (Osl c 5) ∗ yAt c 3 (yv m ρ c 3) ∗ Slot c 3 ∗ wFly m c 0 8)
      ⊢ iprop((∀ v580 v581, iprop(owesA c (Osl c 4) ∗ Sent m ρ c 3 ∗ wFull m c 0 8) -∗ Q ⟨v580, v581⟩) -∗ WP c (onBufs (k0_part18 (F := F)) c v2 v12 v543 v544 v545 v548) Q) := by
  rw [k0_part18_eq_skeleton]; unfold k0_part18_skel onBufs; simp only [wp_bind, wp_pure]
  iintro ⟨#HK, HO, Hy3, HS3, Hw0⟩ Hk
  iapply (slot_out m ρ K c 3 (n := 4) rfl (slot3 c).send (slot3 c).keep (fun _ => Fin.ext (slot3 c).dev) rfl (fun _ => rows_eq c (slot3 c).rows) rfl
    (fun _ => recv_sem c (slot3 c).sem) (slot3 c).own rfl (fun _ => rfl)) $$ [Hy3 HO HS3]
  · isplitr; · iexact HK
    isplitl [Hy3]; · iexact Hy3
    isplitl [HO] <;> iassumption
  iintro ⟨HO, HS3⟩
  simp only [wp_bind, wp_pure]
  iapply (w_wait m ρ K c 0 8 (above1 c 4) rfl rfl) $$ [Hw0 HO]
  · isplitr; · iexact HK
    isplitl [Hw0] <;> iassumption
  iintro ⟨Hw0, HO⟩
  imodintro
  iapply Hk
  isplitl [HO]; · iexact HO
  isplitl [HS3] <;> iassumption

/-- Chunk 14 is started, chunk 8 read. -/
theorem part19 (c : Dev nD) (v12 v580 v581) (Q : _ → sProp 𝕄) :
    iprop(wFree c 6 ∗ wTok m c 14 ∗ wFull m c 0 8)
      ⊢ iprop((iprop(wFly m c 6 14 ∗ wFree c 0) -∗ Q (acc0 m c 8)) -∗ WP c (onBufs (k0_part19 (F := F)) c v12 (xqVal m c) v580 v581) Q) := by
  rw [k0_part19_eq_skeleton]; unfold k0_part19_skel onBufs; simp only [wp_bind, wp_pure]
  iintro ⟨Hw6, Ht14, Hw0⟩ Hk
  iapply (w_start m c 6 14 (src_eq c 14 (off3_eq c 3)) rfl rfl) $$ [Hw6 Ht14]
  · isplitl [Hw6] <;> iassumption
  iintro Hw6
  iapply (w_load m c 0 8 rfl) $$ Hw0
  iintro %v %hv Hw0
  rw [show k0_pay21 (xqVal m c) v = acc0 m c 8 from pay21_eq hv]
  imodintro
  iapply Hk
  isplitl [Hw6] <;> iassumption

/-- Chunk 9 is awaited and read, chunk 15 started. -/
theorem part20 (c : Dev nD) (v12) (Q : _ → sProp 𝕄) :
    iprop(know m ρ K ∗ owesA c (Osl c 4) ∗ wFly m c 1 9 ∗ wFree c 7 ∗ wTok m c 15)
      ⊢ iprop((∀ v642 v643 v648, iprop(owesA c (Osl c 4) ∗ wFree c 1 ∗ wFly m c 7 15) -∗ Q ⟨acc1 m c 8 9, v642, v643, v648⟩) -∗ WP c (onBufs (k0_part20 (F := F)) c v12 (xqVal m c) (acc0 m c 8)) Q) := by
  rw [k0_part20_eq_skeleton]; unfold k0_part20_skel onBufs; simp only [wp_bind, wp_pure]
  iintro ⟨#HK, HO, Hw1, Hw7, Ht15⟩ Hk
  iapply (w_wait m ρ K c 1 9 (above1 c 4) rfl rfl) $$ [Hw1 HO]
  · isplitr; · iexact HK
    isplitl [Hw1] <;> iassumption
  iintro ⟨Hw1, HO⟩
  iapply (w_start m c 7 15 (src_eq c 15 (off4_eq c 3)) rfl rfl) $$ [Hw7 Ht15]
  · isplitl [Hw7] <;> iassumption
  iintro Hw7
  iapply (w_load m c 1 9 rfl) $$ Hw1
  iintro %v %hv Hw1
  rw [show k0_pay22 (xqVal m c) (acc0 m c 8) v = acc1 m c 8 9 from pay22_eq hv]
  imodintro
  iapply Hk
  isplitl [HO]; · iexact HO
  isplitl [Hw1] <;> iassumption

end Cert.KernelProof

end
-- ==== Proof.Parts3.lean ====
/-
The last computing pieces of the body: the third pass is finished, the fourth computed, and their halves sent.
-/
module

public import proofs.«01_k».proof.Proof.Parts1
@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KIx → ℕ)

set_option maxRecDepth 65536

/-- Chunks 10 and 11 are awaited and read. -/
theorem part21 (c : Dev nD) (v12 v642 v643 v648) (Q : _ → sProp 𝕄) :
    iprop(know m ρ K ∗ owesA c (Osl c 4) ∗ wFly m c 2 10 ∗ wFly m c 3 11)
      ⊢ iprop((∀ v : Vec F S1x1024x512 .f32, ⌜shapeCast S1024x512 v shapeCasts_S1x1024x512_S1024x512 = wChunk m c 11⌝ -∗ iprop(owesA c (Osl c 4) ∗ wFree c 2 ∗ wFree c 3) -∗ Q ⟨acc2 m c 8 9 10, v⟩) -∗ WP c (onBufs (k0_part21 (F := F)) c v12 (xqVal m c) (acc1 m c 8 9) v642 v643 v648) Q) := by
  rw [k0_part21_eq_skeleton]; unfold k0_part21_skel onBufs; simp only [wp_bind, wp_pure]
  iintro ⟨#HK, HO, Hw2, Hw3⟩ Hk
  iapply (w_wait m ρ K c 2 10 (above1 c 4) rfl rfl) $$ [Hw2 HO]
  · isplitr; · iexact HK
    isplitl [Hw2] <;> iassumption
  iintro ⟨Hw2, HO⟩
  iapply (w_load m c 2 10 rfl) $$ Hw2
  iintro %u %hu Hw2
  iapply (w_wait m ρ K c 3 11 (above1 c 4) rfl rfl) $$ [Hw3 HO]
  · isplitr; · iexact HK
    isplitl [Hw3] <;> iassumption
  iintro ⟨Hw3, HO⟩
  iapply (w_load m c 3 11 rfl) $$ Hw3
  iintro %v %hv Hw3
  rw [show k0_pay23 (xqVal m c) (acc1 m c 8 9) u = acc2 m c 8 9 10 from pay23_eq hu]
  imodintro
  ispecialize Hk $$ %v %hv
  iapply Hk
  isplitl [HO]; · iexact HO
  isplitl [Hw2] <;> iassumption

/-- The third pass's first half is put in slot 4 and sent. -/
theorem part22 (c : Dev nD) (v2 v12) {v : Vec F S1x1024x512 .f32} (hv : shapeCast S1024x512 v shapeCasts_S1x1024x512_S1024x512 = wChunk m c 11) (Q : _ → sProp 𝕄) :
    iprop(know m ρ K ∗ owesA c (Osl c 4) ∗ yFree c 4 ∗ Slot c 4)
      ⊢ iprop((iprop(owesA c (Osl c 3) ∗ Sent m ρ c 4) -∗ Q (hi (tile m ρ c 2))) -∗ WP c (onBufs (k0_part22 (F := F)) c v2 v12 (scaleVal m ρ c) (xqVal m c) (acc2 m c 8 9 10) v) Q) := by
  rw [k0_part22_eq_skeleton]; unfold k0_part22_skel onBufs; simp only [wp_bind, wp_pure]
  iintro ⟨#HK, HO, Hy4, HS4⟩ Hk
  iapply (y_peek c 4 rfl) $$ Hy4
  iintro %u4 Hy4
  iapply (y_store c 4 (X := yv m ρ c 4) rfl (pay25_eq hv)) $$ Hy4
  iintro Hy4
  iapply (slot_out m ρ K c 4 (n := 3) rfl (slot4 c).send (slot4 c).keep (fun _ => Fin.ext (slot4 c).dev) rfl (fun _ => rows_eq c (slot4 c).rows) rfl
    (fun _ => recv_sem c (slot4 c).sem) (slot4 c).own rfl (fun _ => rfl)) $$ [Hy4 HO HS4]
  · isplitr; · iexact HK
    isplitl [Hy4]; · iexact Hy4
    isplitl [HO] <;> iassumption
  iintro ⟨HO, HS4⟩
  simp only [wp_bind, wp_pure]
  rw [show k0_pay27 (scaleVal m ρ c) (xqVal m c) (acc2 m c 8 9 10) v = hi (tile m ρ c 2) from pay27_eq hv]
  imodintro
  iapply Hk
  isplitl [HO] <;> iassumption

/-- The third pass's second half is put in slot 5 and sent. -/
theorem part23 (c : Dev nD) (v2 v12) (Q : _ → sProp 𝕄) :
    iprop(know m ρ K ∗ owesA c (Osl c 3) ∗ yFree c 5 ∗ Slot c 5)
      ⊢ iprop((iprop(owesA c (Osl c 2) ∗ Sent m ρ c 5) -∗ Q ⟨⟩) -∗ WP c (onBufs (k0_part23 (F := F)) c v2 v12 (hi (tile m ρ c 2))) Q) := by
  rw [k0_part23_eq_skeleton]; unfold k0_part23_skel onBufs; simp only [wp_bind, wp_pure]
  iintro ⟨#HK, HO, Hy5, HS5⟩ Hk
  iapply (y_peek c 5 rfl) $$ Hy5
  iintro %u5 Hy5
  iapply (y_store c 5 (X := yv m ρ c 5) rfl (shapeCast_shapeCast _ _ _)) $$ Hy5
  iintro Hy5
  iapply (slot_out m ρ K c 5 (n := 2) rfl (slot5 c).send (slot5 c).keep (fun _ => Fin.ext (slot5 c).dev) rfl (fun _ => rows_eq c (slot5 c).rows) rfl
    (fun _ => recv_sem c (slot5 c).sem) (slot5 c).own rfl (fun _ => rfl)) $$ [Hy5 HO HS5]
  · isplitr; · iexact HK
    isplitl [Hy5]; · iexact Hy5
    isplitl [HO] <;> iassumption
  iintro ⟨HO, HS5⟩
  simp only [wp_bind, wp_pure]
  imodintro
  iapply Hk
  isplitl [HO] <;> iassumption

/-- Chunks 12 and 13 are awaited and read. -/
theorem part24 (c : Dev nD) (v12) (Q : _ → sProp 𝕄) :
    iprop(know m ρ K ∗ owesA c (Osl c 2) ∗ wFly m c 4 12 ∗ wFly m c 5 13)
      ⊢ iprop((iprop(owesA c (Osl c 2) ∗ wFree c 4 ∗ wFree c 5) -∗ Q ⟨acc0 m c 12, prod1 (xqVal m c) (wChunk m c 13)⟩) -∗ WP c (onBufs (k0_part24 (F := F)) c v12 (xqVal m c)) Q) := by
  rw [k0_part24_eq_skeleton]; unfold k0_part24_skel onBufs; simp only [wp_bind, wp_pure]
  iintro ⟨#HK, HO, Hw4, Hw5⟩ Hk
  iapply (w_wait m ρ K c 4 12 (above1 c 2) rfl rfl) $$ [Hw4 HO]
  · isplitr; · iexact HK
    isplitl [Hw4] <;> iassumption
  iintro ⟨Hw4, HO⟩
  iapply (w_load m c 4 12 rfl) $$ Hw4
  iintro %u %hu Hw4
  iapply (w_wait m ρ K c 5 13 (above1 c 2) rfl rfl) $$ [Hw5 HO]
  · isplitr; · iexact HK
    isplitl [Hw5] <;> iassumption
  iintro ⟨Hw5, HO⟩
  iapply (w_load m c 5 13 rfl) $$ Hw5
  iintro %v %hv Hw5
  rw [show k0_pay30 (xqVal m c) u = acc0 m c 12 from pay30_eq hu, pay31_eq hv]
  imodintro
  iapply Hk
  isplitl [HO]; · iexact HO
  isplitl [Hw4] <;> iassumption

/-- Chunk 14 is awaited and read. -/
theorem part25 (c : Dev nD) (v12) (Q : _ → sProp 𝕄) :
    iprop(know m ρ K ∗ owesA c (Osl c 2) ∗ wFly m c 6 14)
      ⊢ iprop((∀ v817, iprop(owesA c (Osl c 2) ∗ wFree c 6) -∗ Q ⟨acc2 m c 12 13 14, v817⟩) -∗ WP c (onBufs (k0_part25 (F := F)) c v12 (xqVal m c) (acc0 m c 12) (prod1 (xqVal m c) (wChunk m c 13))) Q) := by
  rw [k0_part25_eq_skeleton]; unfold k0_part25_skel onBufs; simp only [wp_bind, wp_pure]
  iintro ⟨#HK, HO, Hw6⟩ Hk
  iapply (w_wait m ρ K c 6 14 (above1 c 2) rfl rfl) $$ [Hw6 HO]
  · isplitr; · iexact HK
    isplitl [Hw6] <;> iassumption
  iintro ⟨Hw6, HO⟩
  iapply (w_load m c 6 14 rfl) $$ Hw6
  iintro %v %hv Hw6
  rw [show k0_pay32 (xqVal m c) (acc0 m c 12) (prod1 (xqVal m c) (wChunk m c 13)) v = acc2 m c 12 13 14 from pay32_eq hv]
  imodintro
  iapply Hk
  isplitl [HO] <;> iassumption

/-- Chunk 15 is awaited and read, the fourth pass's first half put in slot 6. -/
theorem part26 (c : Dev nD) (v12 v817) (Q : _ → sProp 𝕄) :
    iprop(know m ρ K ∗ owesA c (Osl c 2) ∗ wFly m c 7 15 ∗ yFree c 6)
      ⊢ iprop((∀ v851 d512, iprop(owesA c (Osl c 2) ∗ wFree c 7 ∗ yAt c 6 (yv m ρ c 6)) -∗ Q ⟨tile m ρ c 3, v851, d512⟩) -∗ WP c (onBufs (k0_part26 (F := F)) c v12 (scaleVal m ρ c) (xqVal m c) (acc2 m c 12 13 14) v817) Q) := by
  rw [k0_part26_eq_skeleton]; unfold k0_part26_skel onBufs; simp only [wp_bind, wp_pure]
  iintro ⟨#HK, HO, Hw7, Hy6⟩ Hk
  iapply (w_wait m ρ K c 7 15 (above1 c 2) rfl rfl) $$ [Hw7 HO]
  · isplitr; · iexact HK
    isplitl [Hw7] <;> iassumption
  iintro ⟨Hw7, HO⟩
  iapply (w_load m c 7 15 rfl) $$ Hw7
  iintro %v %hv Hw7
  iapply (y_peek c 6 rfl) $$ Hy6
  iintro %u6 Hy6
  iapply (y_store c 6 (X := yv m ρ c 6) rfl (pay34_eq hv)) $$ Hy6
  iintro Hy6
  rw [show k0_pay33 (scaleVal m ρ c) (xqVal m c) (acc2 m c 12 13 14) v = tile m ρ c 3 from pay33_eq hv]
  imodintro
  iapply Hk
  isplitl [HO]; · iexact HO
  isplitl [Hw7] <;> iassumption

/-- Slot 6 is sent, the fourth pass's second half put in slot 7 and sent. -/
theorem part27 (c : Dev nD) (v2 v12 v851 d512) (Q : _ → sProp 𝕄) :
    iprop(know m ρ K ∗ owesA c (Osl c 2) ∗ yAt c 6 (yv m ρ c 6) ∗ Slot c 6 ∗ yFree c 7 ∗ Slot c 7)
      ⊢ iprop((∀ v883 d8, iprop(owesA c (Osl c 0) ∗ Sent m ρ c 6 ∗ Sent m ρ c 7) -∗ Q ⟨v883, d8⟩) -∗ WP c (onBufs (k0_part27 (F := F)) c v2 v12 (tile m ρ c 3) v851 d512) Q) := by
  rw [k0_part27_eq_skeleton]; unfold k0_part27_skel onBufs; simp only [wp_bind, wp_pure]
  iintro ⟨#HK, HO, Hy6, HS6, Hy7, HS7⟩ Hk
  iapply (slot_out m ρ K c 6 (n := 1) rfl (slot6 c).send (slot6 c).keep (fun _ => Fin.ext (slot6 c).dev) rfl (fun _ => rows_eq c (slot6 c).rows) rfl
    (fun _ => recv_sem c (slot6 c).sem) (slot6 c).own rfl (fun _ => rfl)) $$ [Hy6 HO HS6]
  · isplitr; · iexact HK
    isplitl [Hy6]; · iexact Hy6
    isplitl [HO] <;> iassumption
  iintro ⟨HO, HS6⟩
  simp only [wp_bind, wp_pure]
  iapply (y_peek c 7 rfl) $$ Hy7
  iintro %u7 Hy7
  iapply (y_store c 7 (X := yv m ρ c 7) rfl (shapeCast_shapeCast _ _ _)) $$ Hy7
  iintro Hy7
  iapply (slot_out m ρ K c 7 (n := 0) rfl (slot7 c).send (slot7 c).keep (fun _ => Fin.ext (slot7 c).dev) rfl (fun _ => rows_eq c (slot7 c).rows) rfl
    (fun _ => recv_sem c (slot7 c).sem) (slot7 c).own rfl (fun _ => rfl)) $$ [Hy7 HO HS7]
  · isplitr; · iexact HK
    isplitl [Hy7]; · iexact Hy7
    isplitl [HO] <;> iassumption
  iintro ⟨HO, HS7⟩
  simp only [wp_bind, wp_pure]
  imodintro
  iapply Hk
  isplitl [HO]; · iexact HO
  isplitl [HS6] <;> iassumption

end Cert.KernelProof

end
-- ==== Proof.Parts4.lean ====
/-
The waits at the end of the body: for the other devices' blocks, and for the device's own sends.
-/
module

public import proofs.«01_k».proof.Proof.Parts1
@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KIx → ℕ)

set_option maxRecDepth 65536

/-- What the wait for device `j`'s block uses: the credit of its arrival, and the cell's position. -/
def RecvTok (c j : Dev nD) : sProp 𝕄 := iprop(cred (tallyAt (recvCell c j) () N) ∗ atPos ER (recvCell c j) 0 ∅ 0)

/-- What the wait for device `j`'s block leaves: the block, and the counter at zero. -/
def Got (c j : Dev nD) : sProp 𝕄 := iprop(owns (c : Thread nD τ) (rowsM j) fullShare (blk m ρ j c) ∗ semVal (recvCell c j) 0)

/-- The wait for the block of the device `1 + r` places on. -/
theorem got_wait (c : Dev nD) (r : Fin 7) {src : Memref sig (c : Thread nD τ).2.kind .vmem S512x256 .bf16}
    {off : Fin 2 → ℕ} {inb : ∀ a, off a + S512x256.size a ≤ S4096x256.size a} {rS : DmaSem sig} (hR : rS = recvS (nbr c ⟨1 + r.val, by omega⟩))
    {hsrc : src.view.WordExact} {hdst : (oM.slice (Rect.unit (s := S4096x256) off S512x256.size inb) (fun _ => rfl)).view.WordExact} {Q : PUnit → sProp 𝕄} :
    iprop(know m ρ K ∗ RecvTok c (nbr c ⟨1 + r.val, by omega⟩) ∗ owesA c 0)
      ⊢ iprop((iprop(owesA c 0 ∗ Got m ρ c (nbr c ⟨1 + r.val, by omega⟩)) -∗ Q ⟨⟩)
        -∗ WP c (Prog.lift (.waitDma2 rS src (oM.slice (Rect.unit (s := S4096x256) off S512x256.size inb) (fun _ => rfl)) hsrc hdst)) Q) := by
  unfold RecvTok Got
  iintro ⟨#HK, ⟨Hc, Hat⟩, HO⟩ Hk
  iapply (recv_wait m ρ K c (nbr c ⟨1 + r.val, by omega⟩) (nbr_ne c r) hR) $$ [Hc HO Hat]
  · isplitr; · iexact HK
    isplitl [Hc]; · iexact Hc
    isplitl [HO] <;> iassumption
  iexact Hk

/-- The first neighbour's block is awaited. -/
theorem part28 (c : Dev nD) (v2 v883 d8) (Q : _ → sProp 𝕄) :
    iprop(know m ρ K ∗ owesA c 0 ∗ RecvTok c (nbr c 1))
      ⊢ iprop((iprop(owesA c 0 ∗ Got m ρ c (nbr c 1)) -∗ Q ⟨⟩) -∗ WP c (onBufs (k0_part28 (F := F)) c v2 v883 d8) Q) := by
  rw [k0_part28_eq_skeleton]; unfold k0_part28_skel onBufs; simp only [wp_bind, wp_pure]
  iintro ⟨#HK, HO, Hr0⟩ Hk
  iapply (got_wait m ρ K c 0 (recv_sem _ (off29_eq c 0))) $$ [HO Hr0]
  · isplitr; · iexact HK
    isplitl [Hr0]; · iexact Hr0
    iexact HO
  iintro ⟨HO, Hr0⟩
  imodintro
  iapply Hk
  isplitl [HO]; · iexact HO
  iexact Hr0

/-- The next two blocks are awaited. -/
theorem part29 (c : Dev nD) (v2) (Q : _ → sProp 𝕄) :
    iprop(know m ρ K ∗ owesA c 0 ∗ RecvTok c (nbr c 2) ∗ RecvTok c (nbr c 3))
      ⊢ iprop((∀ v950, iprop(owesA c 0 ∗ Got m ρ c (nbr c 2) ∗ Got m ρ c (nbr c 3)) -∗ Q v950) -∗ WP c (onBufs (k0_part29 (F := F)) c v2) Q) := by
  rw [k0_part29_eq_skeleton]; unfold k0_part29_skel onBufs; simp only [wp_bind, wp_pure]
  iintro ⟨#HK, HO, Hr1, Hr2⟩ Hk
  iapply (got_wait m ρ K c 1 (recv_sem _ (off29_eq c 1))) $$ [HO Hr1]
  · isplitr; · iexact HK
    isplitl [Hr1]; · iexact Hr1
    iexact HO
  iintro ⟨HO, Hr1⟩
  iapply (got_wait m ρ K c 2 (recv_sem _ (off29_eq c 2))) $$ [HO Hr2]
  · isplitr; · iexact HK
    isplitl [Hr2]; · iexact Hr2
    iexact HO
  iintro ⟨HO, Hr2⟩
  imodintro
  iapply Hk
  isplitl [HO]; · iexact HO
  isplitl [Hr1]; · iexact Hr1
  iexact Hr2

/-- Two more blocks are awaited. -/
theorem part30 (c : Dev nD) (v2 v950) (Q : _ → sProp 𝕄) :
    iprop(know m ρ K ∗ owesA c 0 ∗ RecvTok c (nbr c 4) ∗ RecvTok c (nbr c 5))
      ⊢ iprop((∀ v980 v981, iprop(owesA c 0 ∗ Got m ρ c (nbr c 4) ∗ Got m ρ c (nbr c 5)) -∗ Q ⟨v980, v981⟩) -∗ WP c (onBufs (k0_part30 (F := F)) c v2 v950) Q) := by
  rw [k0_part30_eq_skeleton]; unfold k0_part30_skel onBufs; simp only [wp_bind, wp_pure]
  iintro ⟨#HK, HO, Hr3, Hr4⟩ Hk
  iapply (got_wait m ρ K c 3 (recv_sem _ (off29_eq c 3))) $$ [HO Hr3]
  · isplitr; · iexact HK
    isplitl [Hr3]; · iexact Hr3
    iexact HO
  iintro ⟨HO, Hr3⟩
  iapply (got_wait m ρ K c 4 (recv_sem _ (off29_eq c 4))) $$ [HO Hr4]
  · isplitr; · iexact HK
    isplitl [Hr4]; · iexact Hr4
    iexact HO
  iintro ⟨HO, Hr4⟩
  imodintro
  iapply Hk
  isplitl [HO]; · iexact HO
  isplitl [Hr3]; · iexact Hr3
  iexact Hr4

/-- The sixth block is awaited. -/
theorem part31 (c : Dev nD) (v2 v980 v981) (Q : _ → sProp 𝕄) :
    iprop(know m ρ K ∗ owesA c 0 ∗ RecvTok c (nbr c 6))
      ⊢ iprop((iprop(owesA c 0 ∗ Got m ρ c (nbr c 6)) -∗ Q ⟨⟩) -∗ WP c (onBufs (k0_part31 (F := F)) c v2 v980 v981) Q) := by
  rw [k0_part31_eq_skeleton]; unfold k0_part31_skel onBufs; simp only [wp_bind, wp_pure]
  iintro ⟨#HK, HO, Hr5⟩ Hk
  iapply (got_wait m ρ K c 5 (recv_sem _ (off29_eq c 5))) $$ [HO Hr5]
  · isplitr; · iexact HK
    isplitl [Hr5]; · iexact Hr5
    iexact HO
  iintro ⟨HO, Hr5⟩
  imodintro
  iapply Hk
  isplitl [HO]; · iexact HO
  iexact Hr5

/-- The last block is awaited, and the end of slot 0's send. -/
theorem part32 (c : Dev nD) (v2 v12) (Q : _ → sProp 𝕄) :
    iprop(know m ρ K ∗ owesA c 0 ∗ RecvTok c (nbr c 7) ∗ Sent m ρ c 0 ∗ atPos ER (sendCell c 0) 0 ∅ 0)
      ⊢ iprop((∀ v1048, iprop(owesA c 0 ∗ Got m ρ c (nbr c 7) ∗ Done m ρ c 0) -∗ Q v1048) -∗ WP c (onBufs (k0_part32 (F := F)) c v2 v12) Q) := by
  rw [k0_part32_eq_skeleton]; unfold k0_part32_skel onBufs; simp only [wp_bind, wp_pure]
  iintro ⟨#HK, HO, Hr6, Hs0, Ha0⟩ Hk
  iapply (got_wait m ρ K c 6 (recv_sem _ (off29_eq c 6))) $$ [HO Hr6]
  · isplitr; · iexact HK
    isplitl [Hr6]; · iexact Hr6
    iexact HO
  iintro ⟨HO, Hr6⟩
  iapply (send_wait m ρ K c 0 (slot0 c).wait rfl rfl) $$ [HO Hs0 Ha0]
  · isplitr; · iexact HK
    isplitl [HO]; · iexact HO
    isplitl [Hs0] <;> iassumption
  iintro ⟨HO, Hs0⟩
  simp only [wp_bind, wp_pure]
  imodintro
  iapply Hk
  isplitl [HO]; · iexact HO
  isplitl [Hr6]; · iexact Hr6
  iexact Hs0

/-- The ends of the sends of slots 1 and 2. -/
theorem part33 (c : Dev nD) (v2 v12 v1048) (Q : _ → sProp 𝕄) :
    iprop(know m ρ K ∗ owesA c 0 ∗ Sent m ρ c 1 ∗ atPos ER (sendCell c 1) 0 ∅ 0 ∗ Sent m ρ c 2 ∗ atPos ER (sendCell c 2) 0 ∅ 0)
      ⊢ iprop((∀ v1081, iprop(owesA c 0 ∗ Done m ρ c 1 ∗ Done m ρ c 2) -∗ Q v1081) -∗ WP c (onBufs (k0_part33 (F := F)) c v2 v12 v1048) Q) := by
  rw [k0_part33_eq_skeleton]; unfold k0_part33_skel onBufs; simp only [wp_bind, wp_pure]
  iintro ⟨#HK, HO, Hs1, Ha1, Hs2, Ha2⟩ Hk
  iapply (send_wait m ρ K c 1 (slot1 c).wait rfl rfl) $$ [HO Hs1 Ha1]
  · isplitr; · iexact HK
    isplitl [HO]; · iexact HO
    isplitl [Hs1] <;> iassumption
  iintro ⟨HO, Hs1⟩
  iapply (send_wait m ρ K c 2 (slot2 c).wait rfl rfl) $$ [HO Hs2 Ha2]
  · isplitr; · iexact HK
    isplitl [HO]; · iexact HO
    isplitl [Hs2] <;> iassumption
  iintro ⟨HO, Hs2⟩
  simp only [wp_bind, wp_pure]
  imodintro
  iapply Hk
  isplitl [HO]; · iexact HO
  isplitl [Hs1] <;> iassumption

/-- The ends of the sends of slots 3 and 4. -/
theorem part34 (c : Dev nD) (v2 v12 v1081) (Q : _ → sProp 𝕄) :
    iprop(know m ρ K ∗ owesA c 0 ∗ Sent m ρ c 3 ∗ atPos ER (sendCell c 3) 0 ∅ 0 ∗ Sent m ρ c 4 ∗ atPos ER (sendCell c 4) 0 ∅ 0)
      ⊢ iprop((∀ v1113 d512, iprop(owesA c 0 ∗ Done m ρ c 3 ∗ Done m ρ c 4) -∗ Q ⟨v1113, d512⟩) -∗ WP c (onBufs (k0_part34 (F := F)) c v2 v12 v1081) Q) := by
  rw [k0_part34_eq_skeleton]; unfold k0_part34_skel onBufs; simp only [wp_bind, wp_pure]
  iintro ⟨#HK, HO, Hs3, Ha3, Hs4, Ha4⟩ Hk
  iapply (send_wait m ρ K c 3 (slot3 c).wait rfl rfl) $$ [HO Hs3 Ha3]
  · isplitr; · iexact HK
    isplitl [HO]; · iexact HO
    isplitl [Hs3] <;> iassumption
  iintro ⟨HO, Hs3⟩
  iapply (send_wait m ρ K c 4 (slot4 c).wait rfl rfl) $$ [HO Hs4 Ha4]
  · isplitr; · iexact HK
    isplitl [HO]; · iexact HO
    isplitl [Hs4] <;> iassumption
  iintro ⟨HO, Hs4⟩
  simp only [wp_bind, wp_pure]
  imodintro
  iapply Hk
  isplitl [HO]; · iexact HO
  isplitl [Hs3] <;> iassumption

/-- The ends of the sends of slots 5 and 6. -/
theorem part35 (c : Dev nD) (v2 v12 v1113 d512) (Q : _ → sProp 𝕄) :
    iprop(know m ρ K ∗ owesA c 0 ∗ Sent m ρ c 5 ∗ atPos ER (sendCell c 5) 0 ∅ 0 ∗ Sent m ρ c 6 ∗ atPos ER (sendCell c 6) 0 ∅ 0)
      ⊢ iprop((∀ v1146 d1, iprop(owesA c 0 ∗ Done m ρ c 5 ∗ Done m ρ c 6) -∗ Q ⟨v1146, d1⟩) -∗ WP c (onBufs (k0_part35 (F := F)) c v2 v12 v1113 d512) Q) := by
  rw [k0_part35_eq_skeleton]; unfold k0_part35_skel onBufs; simp only [wp_bind, wp_pure]
  iintro ⟨#HK, HO, Hs5, Ha5, Hs6, Ha6⟩ Hk
  iapply (send_wait m ρ K c 5 (slot5 c).wait rfl rfl) $$ [HO Hs5 Ha5]
  · isplitr; · iexact HK
    isplitl [HO]; · iexact HO
    isplitl [Hs5] <;> iassumption
  iintro ⟨HO, Hs5⟩
  iapply (send_wait m ρ K c 6 (slot6 c).wait rfl rfl) $$ [HO Hs6 Ha6]
  · isplitr; · iexact HK
    isplitl [HO]; · iexact HO
    isplitl [Hs6] <;> iassumption
  iintro ⟨HO, Hs6⟩
  simp only [wp_bind, wp_pure]
  imodintro
  iapply Hk
  isplitl [HO]; · iexact HO
  isplitl [Hs5] <;> iassumption

end Cert.KernelProof

end
-- ==== Proof.Body.lean ====
/-
The whole body: its pieces in order.
-/
module

public import proofs.«01_k».proof.Proof.Parts2
public import proofs.«01_k».proof.Proof.Parts3
public import proofs.«01_k».proof.Proof.Parts4
@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KIx → ℕ)

set_option maxRecDepth 65536

/-! ## Families of resources, listed -/

omit [FloatOps F] in
/-- A big conjunction over seven indices, written out. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- The same over eight. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- The same over sixteen. -/
theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The tokens that sending slot `k` spends, if it is sent. -/
def SlotTok (c : Dev nD) (k : Fin 8) : sProp 𝕄 :=
  iprop(if tgt c k = c then (emp : sProp 𝕄) else iprop(dutyTok ER (sendCell c k) 0 (0 : Dev nD) ∗ dutyTok ER (recvCell (tgt c k) c) 0 (0 : Dev nD)))

omit [FloatOps F] in
/-- After the barrier every device has handed over its row block: with the tokens, what each slot needs. -/
theorem slots_ready (c : Dev nD) :
    iprop((bigSep Finset.univ fun d => barPay (F := F) c d) ∗ bigSep Finset.univ fun k => SlotTok c k) ⊢ bigSep Finset.univ fun k => Slot (F := F) c k := by
  rw [bigSep_univ_equiv (slots c) (fun d => barPay (F := F) c d), ← bigSep_sep']
  exact bigSep_mono fun k _ => by
    unfold Slot barPay SlotTok
    exact BI.Entails.refl _

/-- What the body starts with, besides the shared knowledge. -/
def bodyIn (c : Dev nD) : sProp 𝕄 :=
  iprop(xFree c ∗ xTok m c ∗ (bigSep Finset.univ fun k => wFree c k) ∗ (bigSep Finset.univ fun q => wTok m c q) ∗ sxAt m ρ c ∗ swAt m ρ c
    ∗ owesA c (O₀ c) ∗ (bigSep Finset.univ fun d => BarTok c d) ∗ cred (tallyAt (barCell c) () 8) ∗ atPos ER (barCell c) 0 ∅ 0
    ∗ (bigSep Finset.univ fun k => yFree c k) ∗ (bigSep Finset.univ fun k => SlotTok c k)
    ∗ (bigSep Finset.univ fun k => atPos ER (sendCell c k) 0 ∅ 0)
    ∗ bigSep Finset.univ fun r : Fin 7 => RecvTok c (nbr c ⟨1 + r.val, by omega⟩))
/-- What the body ends with. -/
def bodyOut (c : Dev nD) : sProp 𝕄 :=
  iprop(xFull m c ∗ (bigSep Finset.univ fun k => wFree c k) ∗ sxAt m ρ c ∗ swAt m ρ c
    ∗ owesA c 0 ∗ semVal (barCell c) 0 ∗ (bigSep Finset.univ fun k => Done m ρ c k)
    ∗ bigSep Finset.univ fun r : Fin 7 => Got m ρ c (nbr c ⟨1 + r.val, by omega⟩))

/-- A program in sequence. -/
theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind ..

set_option maxHeartbeats 4000000 in
/-- The body runs from the one to the other. -/
theorem body_run (c : Dev nD) (Q : PUnit → sProp 𝕄) :
    iprop(know m ρ K ∗ bodyIn m ρ c) ⊢ iprop((bodyOut m ρ c -∗ Q ⟨⟩) -∗ WP c (onBufs (cc0_body (F := F))) Q) := by
  rw [cc0_body_eq_skeleton]; unfold cc0_body_skel onBufs bodyIn bodyOut
  simp only [bigSep_seven, bigSep_eight, bigSep_sixteen]
  iintro ⟨#HK, Hx, Hxt, ⟨Hw0, Hw1, Hw2, Hw3, Hw4, Hw5, Hw6, Hw7⟩, ⟨Ht0, Ht1, Ht2, Ht3, Ht4, Ht5, Ht6, Ht7, Ht8, Ht9, Ht10, Ht11, Ht12, Ht13, Ht14, Ht15⟩, Hsx, Hsw, HO, ⟨HB0, HB1, HB2, HB3, HB4, HB5, HB6, HB7⟩, Hc, Hat, ⟨Hy0, Hy1, Hy2, Hy3, Hy4, Hy5, Hy6, Hy7⟩, HST, ⟨HA0, HA1, HA2, HA3, HA4, HA5, HA6, HA7⟩, ⟨HR0, HR1, HR2, HR3, HR4, HR5, HR6⟩⟩ Hk
  rw [WP_bind]
  iapply (part1 m c _) $$ [Hx Hxt Hw0 Ht0]
  · isplitl [Hx]; · iexact Hx
    isplitl [Hxt]; · iexact Hxt
    isplitl [Hw0]; · iexact Hw0
    iexact Ht0
  iintro %_ %_ %_ %_ %_ %_ ⟨Hx, Hw0⟩
  rw [WP_bind]
  iapply (part2 m c _ _ _ _ _ _) $$ [Hw1 Ht1 Hw2 Ht2]
  · isplitl [Hw1]; · iexact Hw1
    isplitl [Ht1]; · iexact Ht1
    isplitl [Hw2]; · iexact Hw2
    iexact Ht2
  iintro %_ %_ %_ ⟨Hw1, Hw2⟩
  rw [WP_bind]
  iapply (part3 m c _ _ _ _ _) $$ [Hw3 Ht3 Hw4 Ht4]
  · isplitl [Hw3]; · iexact Hw3
    isplitl [Ht3]; · iexact Ht3
    isplitl [Hw4]; · iexact Hw4
    iexact Ht4
  iintro %_ ⟨Hw3, Hw4⟩
  rw [WP_bind]
  iapply (part4 m ρ K c _ _) $$ [Hw5 Ht5 Hsx Hsw HO HB0 HB1 HB2]
  · isplitr; · iexact HK
    isplitl [Hw5]; · iexact Hw5
    isplitl [Ht5]; · iexact Ht5
    isplitl [Hsx]; · iexact Hsx
    isplitl [Hsw]; · iexact Hsw
    isplitl [HO]; · iexact HO
    isplitl [HB0]; · iexact HB0
    isplitl [HB1]; · iexact HB1
    iexact HB2
  iintro %_ ⟨Hw5, Hsx, Hsw, HO⟩
  rw [WP_bind]
  iapply (part5 m ρ K c _ _ _) $$ [HO HB3 HB4 HB5 HB6 HB7 Hc Hat Hx]
  · isplitr; · iexact HK
    isplitl [HO]; · iexact HO
    isplitl [HB3]; · iexact HB3
    isplitl [HB4]; · iexact HB4
    isplitl [HB5]; · iexact HB5
    isplitl [HB6]; · iexact HB6
    isplitl [HB7]; · iexact HB7
    isplitl [Hc]; · iexact Hc
    isplitl [Hat]; · iexact Hat
    iexact Hx
  iintro ⟨HO, Hz, HP, Hx⟩
  ihave HSl := (slots_ready c) $$ [HP HST]
  · isplitl [HP]; · iexact HP
    rw [bigSep_eight]; iexact HST
  ihave HSl' := (Entails.of_eq (bigSep_eight fun k => Slot (F := F) c k)) $$ HSl
  icases HSl' with ⟨HS0, HS1, HS2, HS3, HS4, HS5, HS6, HS7⟩
  rw [WP_bind]
  iapply (part6 m ρ K c _ _) $$ [HO Hw0 Hw6 Ht6]
  · isplitr; · iexact HK
    isplitl [HO]; · iexact HO
    isplitl [Hw0]; · iexact Hw0
    isplitl [Hw6]; · iexact Hw6
    iexact Ht6
  iintro %_ %_ %_ ⟨HO, Hw0, Hw6⟩
  rw [WP_bind]
  iapply (part7 m ρ K c _ _ _ _ _) $$ [HO Hw1 Hw7 Ht7]
  · isplitr; · iexact HK
    isplitl [HO]; · iexact HO
    isplitl [Hw1]; · iexact Hw1
    isplitl [Hw7]; · iexact Hw7
    iexact Ht7
  iintro ⟨HO, Hw1, Hw7⟩
  rw [WP_bind]
  iapply (part8 m ρ K c _ _) $$ [HO Hw2]
  · isplitr; · iexact HK
    isplitl [HO]; · iexact HO
    iexact Hw2
  iintro ⟨HO, Hw2⟩
  rw [WP_bind]
  iapply (part9 m ρ K c _ _) $$ [HO Hw0 Ht8 Hw2 Hw3]
  · isplitr; · iexact HK
    isplitl [HO]; · iexact HO
    isplitl [Hw0]; · iexact Hw0
    isplitl [Ht8]; · iexact Ht8
    isplitl [Hw2]; · iexact Hw2
    iexact Hw3
  iintro %_ %_ %_ %_ ⟨HO, Hw0, Hw2, Hw3⟩
  rw [WP_bind]
  iapply (part10 m ρ c _ _ _ _ _ _) $$ [Hw1 Ht9 Hw3 Hy0]
  · isplitl [Hw1]; · iexact Hw1
    isplitl [Ht9]; · iexact Ht9
    isplitl [Hw3]; · iexact Hw3
    iexact Hy0
  iintro %_ ⟨Hw1, Hw3, Hy0⟩
  rw [WP_bind]
  iapply (part11 m ρ K c _ _ _ _) $$ [Hy0 HO HS0 Hy1 HS1]
  · isplitr; · iexact HK
    isplitl [Hy0]; · iexact Hy0
    isplitl [HO]; · iexact HO
    isplitl [HS0]; · iexact HS0
    isplitl [Hy1]; · iexact Hy1
    iexact HS1
  iintro ⟨HO, HS0, HS1⟩
  rw [WP_bind]
  iapply (part12 m ρ K c _ _) $$ [HO Hw4]
  · isplitr; · iexact HK
    isplitl [HO]; · iexact HO
    iexact Hw4
  iintro ⟨HO, Hw4⟩
  rw [WP_bind]
  iapply (part13 m ρ K c _ _) $$ [HO Hw2 Ht10 Hw4 Hw5]
  · isplitr; · iexact HK
    isplitl [HO]; · iexact HO
    isplitl [Hw2]; · iexact Hw2
    isplitl [Ht10]; · iexact Ht10
    isplitl [Hw4]; · iexact Hw4
    iexact Hw5
  iintro %_ ⟨HO, Hw2, Hw4, Hw5⟩
  rw [WP_bind]
  iapply (part14 m ρ K c _ _ _) $$ [HO Hw3 Ht11 Hw5 Hw6]
  · isplitr; · iexact HK
    isplitl [HO]; · iexact HO
    isplitl [Hw3]; · iexact Hw3
    isplitl [Ht11]; · iexact Ht11
    isplitl [Hw5]; · iexact Hw5
    iexact Hw6
  iintro %_ %_ %_ %_ ⟨HO, Hw3, Hw5, Hw6⟩
  rw [WP_bind]
  iapply (part15 m c _ _ _ _ _ _) $$ [Hw4 Ht12 Hw6]
  · isplitl [Hw4]; · iexact Hw4
    isplitl [Ht12]; · iexact Ht12
    iexact Hw6
  iintro ⟨Hw4, Hw6⟩
  rw [WP_bind]
  iapply (part16 m ρ K c _ _) $$ [HO Hw7 Hw5 Ht13 Hy2]
  · isplitr; · iexact HK
    isplitl [HO]; · iexact HO
    isplitl [Hw7]; · iexact Hw7
    isplitl [Hw5]; · iexact Hw5
    isplitl [Ht13]; · iexact Ht13
    iexact Hy2
  iintro ⟨HO, Hw7, Hw5, Hy2⟩
  rw [WP_bind]
  iapply (part17 m ρ K c _ _ _) $$ [HO Hy2 HS2 Hy3]
  · isplitr; · iexact HK
    isplitl [HO]; · iexact HO
    isplitl [Hy2]; · iexact Hy2
    isplitl [HS2]; · iexact HS2
    iexact Hy3
  iintro %_ %_ %_ %_ ⟨HO, HS2, Hy3⟩
  rw [WP_bind]
  iapply (part18 m ρ K c _ _ _ _ _ _ _) $$ [HO Hy3 HS3 Hw0]
  · isplitr; · iexact HK
    isplitl [HO]; · iexact HO
    isplitl [Hy3]; · iexact Hy3
    isplitl [HS3]; · iexact HS3
    iexact Hw0
  iintro %_ %_ ⟨HO, HS3, Hw0⟩
  rw [WP_bind]
  iapply (part19 m c _ _ _ _) $$ [Hw6 Ht14 Hw0]
  · isplitl [Hw6]; · iexact Hw6
    isplitl [Ht14]; · iexact Ht14
    iexact Hw0
  iintro ⟨Hw6, Hw0⟩
  rw [WP_bind]
  iapply (part20 m ρ K c _ _) $$ [HO Hw1 Hw7 Ht15]
  · isplitr; · iexact HK
    isplitl [HO]; · iexact HO
    isplitl [Hw1]; · iexact Hw1
    isplitl [Hw7]; · iexact Hw7
    iexact Ht15
  iintro %_ %_ %_ ⟨HO, Hw1, Hw7⟩
  rw [WP_bind]
  iapply (part21 m ρ K c _ _ _ _ _) $$ [HO Hw2 Hw3]
  · isplitr; · iexact HK
    isplitl [HO]; · iexact HO
    isplitl [Hw2]; · iexact Hw2
    iexact Hw3
  iintro %v %hv ⟨HO, Hw2, Hw3⟩
  rw [WP_bind]
  iapply (part22 m ρ K c _ _ hv _) $$ [HO Hy4 HS4]
  · isplitr; · iexact HK
    isplitl [HO]; · iexact HO
    isplitl [Hy4]; · iexact Hy4
    iexact HS4
  iintro ⟨HO, HS4⟩
  rw [WP_bind]
  iapply (part23 m ρ K c _ _ _) $$ [HO Hy5 HS5]
  · isplitr; · iexact HK
    isplitl [HO]; · iexact HO
    isplitl [Hy5]; · iexact Hy5
    iexact HS5
  iintro ⟨HO, HS5⟩
  rw [WP_bind]
  iapply (part24 m ρ K c _ _) $$ [HO Hw4 Hw5]
  · isplitr; · iexact HK
    isplitl [HO]; · iexact HO
    isplitl [Hw4]; · iexact Hw4
    iexact Hw5
  iintro ⟨HO, Hw4, Hw5⟩
  rw [WP_bind]
  iapply (part25 m ρ K c _ _) $$ [HO Hw6]
  · isplitr; · iexact HK
    isplitl [HO]; · iexact HO
    iexact Hw6
  iintro %_ ⟨HO, Hw6⟩
  rw [WP_bind]
  iapply (part26 m ρ K c _ _ _) $$ [HO Hw7 Hy6]
  · isplitr; · iexact HK
    isplitl [HO]; · iexact HO
    isplitl [Hw7]; · iexact Hw7
    iexact Hy6
  iintro %_ %_ ⟨HO, Hw7, Hy6⟩
  rw [WP_bind]
  iapply (part27 m ρ K c _ _ _ _ _) $$ [HO Hy6 HS6 Hy7 HS7]
  · isplitr; · iexact HK
    isplitl [HO]; · iexact HO
    isplitl [Hy6]; · iexact Hy6
    isplitl [HS6]; · iexact HS6
    isplitl [Hy7]; · iexact Hy7
    iexact HS7
  iintro %_ %_ ⟨HO, HS6, HS7⟩
  rw [WP_bind]
  iapply (part28 m ρ K c _ _ _ _) $$ [HO HR0]
  · isplitr; · iexact HK
    isplitl [HO]; · iexact HO
    iexact HR0
  iintro ⟨HO, HR0⟩
  rw [WP_bind]
  iapply (part29 m ρ K c _ _) $$ [HO HR1 HR2]
  · isplitr; · iexact HK
    isplitl [HO]; · iexact HO
    isplitl [HR1]; · iexact HR1
    iexact HR2
  iintro %_ ⟨HO, HR1, HR2⟩
  rw [WP_bind]
  iapply (part30 m ρ K c _ _ _) $$ [HO HR3 HR4]
  · isplitr; · iexact HK
    isplitl [HO]; · iexact HO
    isplitl [HR3]; · iexact HR3
    iexact HR4
  iintro %_ %_ ⟨HO, HR3, HR4⟩
  rw [WP_bind]
  iapply (part31 m ρ K c _ _ _ _) $$ [HO HR5]
  · isplitr; · iexact HK
    isplitl [HO]; · iexact HO
    iexact HR5
  iintro ⟨HO, HR5⟩
  rw [WP_bind]
  iapply (part32 m ρ K c _ _ _) $$ [HO HR6 HS0 HA0]
  · isplitr; · iexact HK
    isplitl [HO]; · iexact HO
    isplitl [HR6]; · iexact HR6
    isplitl [HS0]; · iexact HS0
    iexact HA0
  iintro %_ ⟨HO, HR6, HS0⟩
  rw [WP_bind]
  iapply (part33 m ρ K c _ _ _ _) $$ [HO HS1 HA1 HS2 HA2]
  · isplitr; · iexact HK
    isplitl [HO]; · iexact HO
    isplitl [HS1]; · iexact HS1
    isplitl [HA1]; · iexact HA1
    isplitl [HS2]; · iexact HS2
    iexact HA2
  iintro %_ ⟨HO, HS1, HS2⟩
  rw [WP_bind]
  iapply (part34 m ρ K c _ _ _ _) $$ [HO HS3 HA3 HS4 HA4]
  · isplitr; · iexact HK
    isplitl [HO]; · iexact HO
    isplitl [HS3]; · iexact HS3
    isplitl [HA3]; · iexact HA3
    isplitl [HS4]; · iexact HS4
    iexact HA4
  iintro %_ %_ ⟨HO, HS3, HS4⟩
  rw [WP_bind]
  iapply (part35 m ρ K c _ _ _ _ _) $$ [HO HS5 HA5 HS6 HA6]
  · isplitr; · iexact HK
    isplitl [HO]; · iexact HO
    isplitl [HS5]; · iexact HS5
    isplitl [HA5]; · iexact HA5
    isplitl [HS6]; · iexact HS6
    iexact HA6
  iintro %_ %_ ⟨HO, HS5, HS6⟩
  iapply (send_wait m ρ K c 7 (slot7 c).wait rfl rfl) $$ [HO HS7 HA7]
  · isplitr; · iexact HK
    isplitl [HO]; · iexact HO
    isplitl [HS7]; · iexact HS7
    iexact HA7
  iintro ⟨HO, HS7⟩
  simp only [wp_bind, wp_pure]
  imodintro
  iapply Hk
  isplitl [Hx]; · iexact Hx
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [Hsx]; · iexact Hsx
  isplitl [Hsw]; · iexact Hsw
  isplitl [HO]; · iexact HO
  isplitl [Hz]; · iexact Hz
  isplitl [HS0 HS1 HS2 HS3 HS4 HS5 HS6 HS7]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [HR0]; · iexact HR0
  isplitl [HR1]; · iexact HR1
  isplitl [HR2]; · iexact HR2
  isplitl [HR3]; · iexact HR3
  isplitl [HR4]; · iexact HR4
  isplitl [HR5]; · iexact HR5
  iexact HR6

end Cert.KernelProof

end
-- ==== Proof.Ends.lean ====
/-
The body's buffers cut into the pieces its steps hold, and the pieces joined back: the weight and result buffers by
slot, the output by row block, the weights into one share per copy.
-/
module

public import proofs.«01_k».proof.Proof.Body

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A family entailed member by member. -/
theorem each {I : Type} [Fintype I] {Φ Ψ : I → sProp 𝕄} (h : ∀ i, Φ i ⊢ Ψ i) : bigSep Finset.univ Φ ⊢ bigSep Finset.univ Ψ :=
  bigSep_mono fun i _ => h i

/-! ## The pieces are disjoint and cover -/

/-- Two slots of the weight buffer share no element. -/
theorem wRect_disjoint (k k' : Fin 8) (h : k ≠ k') : Disjoint (wRect k).set (wRect k').set :=
  lead_disjoint (s := S8x1024x512) 0 1 (fun k : Fin 8 => ![k.val, 0, 0]) S1x1024x512.size wInb (fun b => (one_mul b.val).symm) rfl k k' h
/-- The eight slots make up the weight buffer. -/
theorem wRect_cover : Finset.univ.biUnion (fun k => (wRect k).set) = Finset.univ :=
  lead_cover (s := S8x1024x512) 0 1 (fun k : Fin 8 => ![k.val, 0, 0]) S1x1024x512.size wInb (fun b => (one_mul b.val).symm)
    (by decide) rfl (by decide) rfl
/-- Two slots of the result buffer share no element. -/
theorem yRect_disjoint (k k' : Fin 8) (h : k ≠ k') : Disjoint (yRect k).set (yRect k').set :=
  lead_disjoint (s := S8x512x256) 0 1 (fun k : Fin 8 => ![k.val, 0, 0]) S1x512x256.size yInb (fun b => (one_mul b.val).symm) rfl k k' h
/-- The eight slots make up the result buffer. -/
theorem yRect_cover : Finset.univ.biUnion (fun k => (yRect k).set) = Finset.univ :=
  lead_cover (s := S8x512x256) 0 1 (fun k : Fin 8 => ![k.val, 0, 0]) S1x512x256.size yInb (fun b => (one_mul b.val).symm)
    (by decide) rfl (by decide) rfl
/-- Two row blocks of the output share no element. -/
theorem oRect_disjoint (j j' : Dev nD) (h : j ≠ j') : Disjoint (oRect j).set (oRect j').set :=
  lead_disjoint (s := S4096x256) 0 512 (fun j : Fin 8 => ![512 * j.val, 0]) S512x256.size oInb (fun b => rfl) rfl j j' h
/-- The eight row blocks make up the output. -/
theorem oRect_cover : Finset.univ.biUnion (fun j => (oRect j).set) = Finset.univ :=
  lead_cover (s := S4096x256) 0 512 (fun j : Fin 8 => ![512 * j.val, 0]) S512x256.size oInb (fun b => rfl)
    (by decide) rfl (by decide) rfl

/-- A weight slot seen as a matrix has the elements of its block. -/
theorem wSlot_set (k : Fin 8) : (wSlot k).view.set = (wRect k).set :=
  (View.set_reshape _ _).trans (View.set_slice_whole cc0_scratch1 (wRect k))
/-- A result slot seen as a matrix has the elements of its block. -/
theorem ySlot_set (k : Fin 8) : (ySlot k).view.set = (yRect k).set :=
  (View.set_reshape _ _).trans (View.set_slice_whole cc0_scratch2 (yRect k))

/-! ## The weight buffer -/

/-- The weight buffer held whole is held slot by slot; with the slots' semaphores, every slot is free. -/
theorem w_split (c : Dev nD) :
    iprop((∃ f, ((c : Thread nD τ).loc cc0_scratch1 ↦{fullShare} f)) ∗ bigSep Finset.univ fun k => semVal ((c : Thread nD τ), .dma (copyS k)) 0)
      ⊢ (bigSep Finset.univ fun k => wFree (F := F) c k : sProp 𝕄) := by
  iintro ⟨⟨%f, H⟩, Hs⟩
  ihave H' := (Entails.of_eq (pointsTo_blocks (fun k => (wRect k).set) wRect_disjoint wRect_cover f)) $$ H
  unfold wFree
  rw [bigSep_sep']
  isplitr [Hs]
  · iapply (each (F := F) (fun k => show ((c : Thread nD τ).loc cc0_scratch1 ↦[(wRect k).set]{fullShare} f : sProp 𝕄) ⊢ iprop(∃ X, wAt c k X) from by
      unfold wAt; rw [← wSlot_set k]
      iintro H; iexists _; iexists f; isplitr
      · ipureintro; rfl
      · iexact H))
    iexact H'
  · iexact Hs

/-- The free slots joined back. -/
theorem w_join (c : Dev nD) :
    (bigSep Finset.univ fun k => wFree (F := F) c k : sProp 𝕄)
      ⊢ iprop((∃ f, ((c : Thread nD τ).loc cc0_scratch1 ↦{fullShare} f)) ∗ bigSep Finset.univ fun k => semVal ((c : Thread nD τ), .dma (copyS k)) 0) := by
  unfold wFree
  rw [bigSep_sep']
  iintro ⟨H, Hs⟩
  isplitr [Hs]
  · iapply (pointsTo_blocks_join_exists (fun k => (wRect k).set) wRect_disjoint wRect_cover
      (constant S8x1024x512 .f32 0x00000000#32 : FVec F S8x1024x512 .f32))
    iapply (each (F := F) (fun k => show iprop(∃ X, wAt (F := F) c k X) ⊢ iprop(∃ f, ((c : Thread nD τ).loc cc0_scratch1 ↦[(wRect k).set]{fullShare} f)) from by
      unfold wAt; rw [← wSlot_set k]
      iintro ⟨%X, %g, -, H⟩; iexists g; iexact H)) $$ H
  · iexact Hs

/-! ## The result buffer -/

/-- The result buffer held whole is held slot by slot. -/
theorem y_split (c : Dev nD) :
    iprop(∃ f, ((c : Thread nD τ).loc cc0_scratch2 ↦{fullShare} f)) ⊢ (bigSep Finset.univ fun k => yFree (F := F) c k : sProp 𝕄) := by
  iintro ⟨%f, H⟩
  ihave H' := (Entails.of_eq (pointsTo_blocks (fun k => (yRect k).set) yRect_disjoint yRect_cover f)) $$ H
  iapply (each (F := F) (fun k => show ((c : Thread nD τ).loc cc0_scratch2 ↦[(yRect k).set]{fullShare} f : sProp 𝕄) ⊢ yFree c k from by
    unfold yFree owns; rw [← ySlot_set k]
    iintro H; iexists _; iexists f; isplitr
    · ipureintro; rfl
    · iexact H))
  iexact H'

/-- The slots joined back. -/
theorem y_join (c : Dev nD) :
    (bigSep Finset.univ fun k => yFree (F := F) c k : sProp 𝕄) ⊢ iprop(∃ f, ((c : Thread nD τ).loc cc0_scratch2 ↦{fullShare} f)) := by
  refine BI.Entails.trans ?_ (pointsTo_blocks_join_exists (fun k => (yRect k).set) yRect_disjoint yRect_cover
      (constant S8x512x256 .bf16 0x0000#16 : FVec F S8x512x256 .bf16))
  exact bigSep_mono (fun k _ => show yFree c k ⊢ iprop(∃ f, ((c : Thread nD τ).loc cc0_scratch2 ↦[(yRect k).set]{fullShare} f)) from by
      unfold yFree owns; rw [← ySlot_set k]
      iintro ⟨%X, %g, -, H⟩; iexists g; iexact H)

/-! ## The output -/

/-- The output held whole is held row block by row block, each at what it reads. -/
theorem o_blocks (c : Dev nD) (g : (cc0_stg2_0 : Ref sig .tc).ty.Contents (Elt F)) :
    ((c : Thread nD τ).loc cc0_stg2_0 ↦{fullShare} g : sProp 𝕄)
      = bigSep Finset.univ fun j : Dev nD => owns (c : Thread nD τ) (rowsM j) fullShare (fun i => g ((oRect j).emb i)) := by
  have h := pointsTo_rects (Val := Elt F) (Ix := Unit) (Name := ℕ) (U := UU) (Lvl := ℕ) (c : Thread nD τ) oM fullShare oRect (fun _ _ => rfl) oRect_disjoint oRect_cover g
  simp only [Memref.view_whole, View.read_whole, View.set_whole] at h
  exact h

/-- The output cut for the barrier: each device's row block, to be handed to it. -/
theorem o_split (c : Dev nD) :
    iprop(∃ f, ((c : Thread nD τ).loc cc0_stg2_0 ↦{fullShare} f)) ⊢ (bigSep Finset.univ fun d => barPay (F := F) d c : sProp 𝕄) := by
  iintro ⟨%f, H⟩
  ihave H' := (Entails.of_eq (o_blocks c f)) $$ H
  iapply (each (F := F) (fun d => show owns (c : Thread nD τ) (rowsM d) fullShare (fun i => f ((oRect d).emb i)) ⊢ barPay (F := F) d c from by
    unfold barPay; iintro H; iexists _; iexact H))
  iexact H'

/-- Row block `j` of the whole output is what device `j` computed. -/
theorem outAt_block (c j : Dev nD) : blk m ρ j c = fun i => outAt m ρ c ((oRect j).emb i) := by
  funext i
  have h0 : ((oRect j).emb i 0).val = 512 * j.val + (i 0).val := by rw [Rect.emb_apply]; simp
  have h1 : (oRect j).emb i 1 = i 1 := Fin.ext (by rw [Rect.emb_apply]; simp)
  have hi : (i 0).val < 512 := (i 0).isLt
  unfold outAt
  have e1 : (⟨((oRect j).emb i 0).val / 512, by have := ((oRect j).emb i 0).isLt; show _ < 8; have h : ((oRect j).emb i 0).val < 4096 := this; omega⟩ : Dev nD) = j :=
    Fin.ext (by show ((oRect j).emb i 0).val / 512 = j.val; omega)
  rw [e1]
  congr 1
  funext a
  match a with
  | ⟨0, _⟩ => exact Fin.ext (show (i 0).val = ((oRect j).emb i 0).val % 512 by omega)
  | ⟨1, _⟩ => exact h1.symm

/-- The row blocks, each holding what its device computed, are the output whole. -/
theorem o_join (c : Dev nD) :
    (bigSep Finset.univ fun j : Dev nD => owns (c : Thread nD τ) (rowsM j) fullShare (blk m ρ j c)) ⊢ ((c : Thread nD τ).loc cc0_stg2_0 ↦{fullShare} outAt m ρ c : sProp 𝕄) := by
  rw [o_blocks]
  exact bigSep_mono fun j _ => by rw [outAt_block]; exact BI.Entails.refl _

/-! ## The arguments -/

/-- A share of the weights is one share per copy, each of the chunk the copy reads. -/
theorem w_shares (c : Dev nD) (s : PosShare TreeShare) :
    ((c : Thread nD τ).loc main_arg1 ↦{s} m ((c : Thread nD τ).loc main_arg1)) ⊢ (bigSep Finset.univ fun q => wTok (F := F) m c q : sProp 𝕄) := by
  iintro H
  ihave H' := (Transfers.pointsTo_toks_split s 16) $$ H
  icases H' with ⟨-, H⟩
  iapply (each (F := F) (fun q => show ((c : Thread nD τ).loc main_arg1 ↦{Transfers.shareTok s 16 q} m ((c : Thread nD τ).loc main_arg1)) ⊢ wTok (F := F) m c q from by
    unfold wTok
    iintro H
    ihave H' := (pointsTo_split_subset (Finset.subset_univ (wSrc c q).view.set)).1 $$ H
    icases H' with ⟨H, -⟩
    iexists _; iexact H)) $$ H

end Cert.KernelProof

end
-- ==== Proof.Point.lean ====
/-
The kernel's one grid point: what the pipeline hands the body and takes back, and the body run between them.
-/
module

public import proofs.«01_k».proof.Proof.Ends

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device's launch leaves it with, besides the shared knowledge: its places in its cells' rounds, the tokens of
    the duties it pays, and the semaphores of its local copies at zero. -/
def payToks (c : Dev nD) : sProp 𝕄 :=
  iprop((bigSep Finset.univ fun d : Dev nD => dutyTok ER (barCell d) 0 c) ∗ bigSep Finset.univ fun k => SlotTok c k)
/-- The local copies' semaphores at zero. -/
def copySems (c : Dev nD) : sProp 𝕄 :=
  iprop(semVal ((c : Thread nD τ), .dma xS) 0 ∗ bigSep Finset.univ fun k => semVal ((c : Thread nD τ), .dma (copyS k)) 0)
/-- What a device holds once: its positions in the rounds, the tokens of the duties it pays, and the copy semaphores. -/
def linear (c : Dev nD) : sProp 𝕄 :=
  iprop((bigSep Finset.univ fun k : KIx => atPos ER (kcell (c, k)) 0 ∅ 0) ∗ payToks c ∗ copySems c)
/-- What a device may wait for: its barrier's eight units, and each other device's block. -/
def waitCreds (c : Dev nD) : sProp 𝕄 :=
  iprop(cred (tallyAt (barCell c) () 8) ∗ bigSep Finset.univ fun r : Fin 7 => cred (tallyAt (recvCell c (nbr c ⟨1 + r.val, by omega⟩)) () N))
/-- A share of each of the two arguments the body reads itself. -/
def args (q : PosShare TreeShare) (c : Dev nD) : sProp 𝕄 :=
  iprop(((c : Thread nD τ).loc main_arg0 ↦{q} m ((c : Thread nD τ).loc main_arg0)) ∗ ((c : Thread nD τ).loc main_arg1 ↦{q} m ((c : Thread nD τ).loc main_arg1)))
/-- What a device's run starts with. -/
def start (c : Dev nD) : sProp 𝕄 := iprop((∃ K, know m ρ K) ∗ linear c ∗ waitCreds c ∗ args m fullShare.left c)
/-- The three scratch buffers, at some contents. -/
def scratch (c : Dev nD) : sProp 𝕄 :=
  iprop((∃ f, ((c : Thread nD τ).loc cc0_scratch0 ↦{fullShare} f)) ∗ (∃ f, ((c : Thread nD τ).loc cc0_scratch1 ↦{fullShare} f)) ∗ ∃ f, ((c : Thread nD τ).loc cc0_scratch2 ↦{fullShare} f))
/-- The device's own semaphores at zero. -/
def ownZero (c : Dev nD) : sProp 𝕄 :=
  iprop(copySems c ∗ (bigSep Finset.univ fun k => semVal (sendCell c k) 0) ∗ bigSep Finset.univ fun j => semVal (recvCell c j) 0)
/-- What the body starts from, -/
def Φ₀ (c : Dev nD) : sProp 𝕄 := iprop(start m ρ c ∗ scratch c)
/-- and what it ends with. -/
def Φ₁ (c : Dev nD) : sProp 𝕄 := iprop(scratch c ∗ ownZero c ∗ semVal (barCell c) 0)

/-- The staged arrays: the scales go in, the output comes out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxStg m ρ c
    | ⟨1, _⟩ => swStg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Families over the devices -/

omit [FloatOps F] in
/-- A family over the devices: one's own member, and the members of the seven devices from the next one on. -/
theorem around (c : Dev nD) (Φ : Dev nD → sProp 𝕄) :
    bigSep Finset.univ Φ = iprop(Φ c ∗ bigSep Finset.univ fun r : Fin 7 => Φ (nbr c ⟨1 + r.val, by omega⟩)) := by
  rw [bigSep_univ_equiv (nbrs c) Φ, bigSep_eight, bigSep_seven]
  show iprop(Φ (nbr c 0) ∗ _) = _
  rw [nbr_zero]
  rfl

omit [FloatOps F] in
/-- A family over a device's shared cells. -/
theorem bigSep_cells (c : Dev nD) (Φ : GSem nD τ sig → sProp 𝕄) :
    (bigSep Finset.univ fun k : KIx => Φ (kcell (c, k)))
      = iprop(Φ (barCell c) ∗ (bigSep Finset.univ fun k => Φ (sendCell c k)) ∗ bigSep Finset.univ fun j => Φ (recvCell c j)) := by
  rw [bigSep_univ_sum, bigSep_univ_sum, Finset.univ_unique, bigSep_singleton]; rfl

/-! ## Into the body and out of it -/

/-- The window of a scale and the result's, each held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device starts its body with, short of the buffers of the pipeline, and what remains aside: its receive
    semaphore for its own block, which nobody credits, closed at once. -/
theorem body_in (c : Dev nD) (K : Dev nD × KIx → ℕ) :
    iprop(know m ρ K ∗ linear c ∗ waitCreds c ∗ args m fullShare.left c ∗ scratch c ∗ sxAt m ρ c ∗ swAt m ρ c ∗ owesA c (O₀ c)
        ∗ ∃ f, ((c : Thread nD τ).loc cc0_stg2_0 ↦{fullShare} f))
      ⊢ |={Set.univ}=> iprop(bodyIn m ρ c ∗ semVal (recvCell c c) 0) := by
  unfold linear payToks copySems waitCreds args scratch
  rw [bigSep_cells c fun g => atPos ER g 0 ∅ 0, around c fun j => atPos ER (recvCell c j) 0 ∅ 0]
  iintro ⟨#HK, ⟨⟨HaB, HaS, HaC, HaR⟩, ⟨HtB, HtS⟩, HsX, HsC⟩, ⟨HcB, HcR⟩, ⟨HA, HW⟩, ⟨Hx, Hw, Hy⟩, Hsx, Hsw, HO, Ho⟩
  imod (Rounds.cell_close ER (Rd m ρ) (Set.mem_univ (K (c, .inr (.inr c)))) (fun h => h) (g := recvCell c c) (R := 0) (fun r _ => by
      rcases r with _ | r
      · rw [duties_recv, if_pos rfl]
      · exact duties_later m ρ _ _ (Nat.succ_pos r))) $$ [HaC] with Hz
  · isplitr; · iapply (know_inv m ρ K (c, .inr (.inr c))); iexact HK
    iexact HaC
  imodintro
  isplitr [Hz]
  · unfold bodyIn
    isplitl [Hx HsX]
    · unfold xFree; isplitl [Hx]; · iexact Hx
      iexact HsX
    isplitl [HA]; · unfold xTok; iexists _; iexact HA
    isplitl [Hw HsC]
    · iapply (w_split c); isplitl [Hw]; · iexact Hw
      iexact HsC
    isplitl [HW]; · iapply (w_shares m c fullShare.left); iexact HW
    isplitl [Hsx]; · iexact Hsx
    isplitl [Hsw]; · iexact Hsw
    isplitl [HO]; · iexact HO
    isplitl [Ho HtB]
    · unfold BarTok; rw [bigSep_sep']
      isplitl [HtB]; · iexact HtB
      iapply (o_split c); iexact Ho
    isplitl [HcB]; · iexact HcB
    isplitl [HaB]; · iexact HaB
    isplitl [Hy]; · iapply (y_split c); iexact Hy
    isplitl [HtS]; · iexact HtS
    isplitl [HaS]; · iexact HaS
    unfold RecvTok; rw [bigSep_sep']
    isplitl [HcR]; · iexact HcR
    iexact HaR
  · iexact Hz

/-- What a device's body leaves it with: its scratch, its semaphores at zero, its output whole. -/
theorem body_out (c : Dev nD) :
    iprop(bodyOut m ρ c ∗ semVal (recvCell c c) 0)
      ⊢ iprop(Φ₁ c ∗ sxAt m ρ c ∗ swAt m ρ c ∗ owesA c 0 ∗ ((c : Thread nD τ).loc cc0_stg2_0 ↦{fullShare} outAt m ρ c)) := by
  unfold bodyOut Done Got xFull
  simp only [bigSep_sep']
  iintro ⟨⟨⟨Hx, HsX⟩, Hw, Hsx, Hsw, HO, HzB, ⟨Hy, HzS, Hown⟩, HR, HzR⟩, Hz⟩
  ihave Hw' := (w_join c) $$ Hw
  icases Hw' with ⟨Hw, HsC⟩
  ihave Hy' := (y_join c) $$ Hy
  ihave Hown' := (show (bigSep Finset.univ fun k => iprop(if tgt c k = c then owns (c : Thread nD τ) (rowsM c) fullShare (blk m ρ c c) else (emp : sProp 𝕄)))
      ⊢ owns (c : Thread nD τ) (rowsM c) fullShare (blk m ρ c c) from
    (bigSep_elim (Finset.mem_univ (slotOf c c))).trans (by rw [if_pos (tgt_slotOf c c)]; exact BI.Entails.refl _)) $$ Hown
  isplitl [Hx HsX Hw HsC Hy' HzS HzR Hz HzB]
  · unfold Φ₁ scratch ownZero copySems
    rw [around c fun j => semVal (recvCell c j) 0]
    isplitl [Hx Hw Hy']
    · isplitl [Hx]; · iexists _; iexact Hx
      isplitl [Hw]; · iexact Hw
      iexact Hy'
    isplitr [HzB]
    · isplitl [HsX HsC]
      · isplitl [HsX]; · iexact HsX
        iexact HsC
      isplitl [HzS]; · iexact HzS
      isplitl [Hz]; · iexact Hz
      iexact HzR
    · iexact HzB
  isplitl [Hsx]; · iexact Hsx
  isplitl [Hsw]; · iexact Hsw
  isplitl [HO]; · iexact HO
  iapply (o_join m ρ c)
  rw [around c fun j => owns (c : Thread nD τ) (rowsM j) fullShare (blk m ρ j c)]
  isplitl [Hown']; · iexact Hown'
  iexact HR

/-! ## The body obligation -/

omit [FloatOps F] in
/-- Owning a whole buffer through its view is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The state before the body, staging buffers included, -/
def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and after it. -/
def bodyPost (c : Dev nD) : sProp 𝕄 :=
  iprop(Φ₁ c ∗ (dats m ρ 0 c).owesAt () (t0_0 : Fin cfg0.N).succ
    ∗ stg c cc0_stg0_0 (sxStg m ρ c) ∗ stg c cc0_stg1_0 (swStg m ρ c) ∗ stg c cc0_stg2_0 (outAt m ρ c))

set_option maxRecDepth 65536 in
/-- The body takes the one to the other. -/
theorem sound_body (c : Dev nD) : bodyPre m ρ c ⊢ WP c (onBufs (cc0_body (F := F))) (fun _ => bodyPost m ρ c) := by
  unfold bodyPre Φ₀ start
  iintro ⟨⟨⟨⟨%K, #HK⟩, Hlin, Hcr, Harg⟩, Hscr⟩, Ho, ⟨%d0, %g0, %hg0, Hsx⟩, ⟨%d1, %g1, %hg1, Hsw⟩, ⟨%d2, %g2, %hg2, Hout⟩⟩
  have h0 : g0 = sxStg m ρ c := by rw [hg0]; unfold Dat.before; rw [if_pos (fetch0_0 t0_0)]; rfl
  have h1 : g1 = swStg m ρ c := by rw [hg1]; unfold Dat.before; rw [if_pos (fetch0_1 t0_0)]; rfl
  subst h0 h1
  unfold Dat.owesAt Pipeline.owesWithin
  icases Ho with ⟨%W, %hW, HO⟩
  rw [show (dats m ρ 0 c).owed (t0_0 : Fin cfg0.N).castSucc = O₀ c from rfl]
  imod (body_in m ρ c K) $$ [Hlin Hcr Harg Hscr Hsx Hsw HO Hout] with ⟨Hin, Hz⟩
  · isplitr; · iexact HK
    isplitl [Hlin]; · iexact Hlin
    isplitl [Hcr]; · iexact Hcr
    isplitl [Harg]; · iexact Harg
    isplitl [Hscr]; · iexact Hscr
    isplitl [Hsx]; · unfold sxAt; iexact Hsx
    isplitl [Hsw]; · unfold swAt; iexact Hsw
    isplitl [HO]; · unfold owesA; iexists W; iexact HO
    iexists _; iexact Hout
  iapply (body_run m ρ K c _) $$ [Hin]
  · isplitr; · iexact HK
    iexact Hin
  iintro Hbo
  ihave H := (body_out m ρ c) $$ [Hbo Hz]
  · isplitl [Hbo]; · iexact Hbo
    iexact Hz
  unfold sxAt swAt owesA
  icases H with ⟨HΦ, Hsx, Hsw, ⟨%W', HO⟩, Hout⟩
  unfold bodyPost Dat.owesAt Pipeline.owesWithin
  rw [show (dats m ρ 0 c).owed (t0_0 : Fin cfg0.N).succ = 0 from rfl]
  isplitl [HΦ]; · iexact HΦ
  isplitl [HO]
  · iexists W'
    isplitr; · ipureintro; exact fun _ _ => Or.inl trivial
    iexact HO
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 65536 in
/-- The pipeline's body obligation on core `c`. -/
theorem body_obligation (c : Dev nD) : BodyObligation (dats (F := F) m ρ 0 c) (defs₀ (F := F)) 𝒱₀ () Set.univ := fun t => by
  rw [show t = (t0_0 : Fin cfg0.N) from fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole_eq]
  exact sound_body m ρ c

end Cert.KernelProof

end
-- ==== Proof.Launch.lean ====
/-
The launch: the ghost state dealt to the devices, the shared cells' invariants allocated, the credit each device's
waits start with, and the run of the whole mesh.
-/
module

public import proofs.«01_k».proof.Proof.Point
public import Idealize.ShloMosaic.Lib.Pipeline.CollectiveSegs

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, and the cells -/

/-- The kernel's own semaphores: the row block's copy, the weight copies, the sends, the receives. -/
abbrev osem : Unit ⊕ (Fin 8 ⊕ (Fin 8 ⊕ Dev nD)) → SemLoc sig :=
  fun | .inl _ => .dma xS | .inr (.inl k) => .dma (copyS k) | .inr (.inr (.inl k)) => .dma (sendS k) | .inr (.inr (.inr j)) => .dma (recvS j)
/-- The kernel's own semaphores are distinct, and none is a staging semaphore. -/
theorem ownSemFacts : Pipeline.OwnSemFacts cfg0.spec osem := by decide +kernel

/-- A device's shared semaphores are distinct. -/
theorem csem_injective : Function.Injective csem := by decide +kernel
/-- So are the shared cells of the mesh. -/
theorem kcell_injective : Function.Injective (kcell : Dev nD × KIx → GSem nD τ sig) := by
  rintro ⟨c, k⟩ ⟨c', k'⟩ h
  have h1 : c = c' := by have := congrArg (fun g : GSem nD τ sig => g.1.1) h; exact this
  exact Prod.ext h1 (csem_injective (congrArg Prod.snd h))
/-- All shared cells. -/
def ringCells : Finset (GSem nD τ sig) := Finset.univ.map ⟨kcell, kcell_injective⟩

/-- The duty tokens minted for a device's own cells: its barrier's one per device, its sends' and its receives'. -/
abbrev TIx : Type := Dev nD ⊕ (Fin 8 ⊕ Dev nD)
/-- The cell and the payer that a token index names: a barrier token its signaller, any other the one payer. -/
abbrev tokIx : TIx → KIx × Dev nD := fun | .inl d => (.inl (), d) | .inr k => (.inr k, 0)
/-- Distinct indices name distinct duties of a device. -/
theorem tokIx_injective : Function.Injective tokIx := by decide +kernel
/-- The duty that a device and an index name. -/
abbrev tokOf (cj : Dev nD × TIx) : GSem nD τ sig × ℕ × Dev nD := (kcell (cj.1, (tokIx cj.2).1), 0, (tokIx cj.2).2)
/-- Distinct pairs name distinct duties. -/
theorem tokOf_injective : Function.Injective (tokOf : Dev nD × TIx → GSem nD τ sig × ℕ × Dev nD) := by
  rintro ⟨c, j⟩ ⟨c', j'⟩ h
  have h1 : (c, (tokIx j).1) = (c', (tokIx j').1) := kcell_injective (congrArg Prod.fst h)
  have h2 : (tokIx j).2 = (tokIx j').2 := congrArg (fun x => x.2.2) h
  have h3 : c = c' := congrArg Prod.fst h1
  have h4 : (tokIx j).1 = (tokIx j').1 := congrArg Prod.snd h1
  exact Prod.ext h3 (tokIx_injective (Prod.ext h4 h2))
/-- The tokens of all duties. -/
def ringToks : Finset (GSem nD τ sig × ℕ × Dev nD) := Finset.univ.map ⟨tokOf, tokOf_injective⟩

/-- The launch's ghost element: the pipeline's, the cells' and tokens', and the copies' counters. -/
def u₀ : UU :=
  (initOf (Pipeline.cells cfgs cellOf_inj) (Pipeline.launchToks cfgs cellOf_inj), (initOf ringCells ringToks, 1))

/-- The tokens of a device's own cells. -/
def toks (c : Dev nD) : sProp 𝕄 :=
  iprop((bigSep Finset.univ fun d : Dev nD => dutyTok ER (barCell c) 0 d)
    ∗ (bigSep Finset.univ fun k : Fin 8 => dutyTok ER (sendCell c k) 0 (0 : Dev nD))
    ∗ bigSep Finset.univ fun j : Dev nD => dutyTok ER (recvCell c j) 0 (0 : Dev nD))

/-- What the launch deals a device. -/
def G (c : Dev nD) : sProp 𝕄 :=
  iprop((bigSep Finset.univ fun k : KIx => roundState ER (Rd m ρ) (kcell (c, k)) 0)
    ∗ (bigSep Finset.univ fun k : KIx => iprop(atPos ER (kcell (c, k)) 0 ∅ 0 ∗ reached ER (kcell (c, k)) 0)) ∗ toks c)

/-- The shared cells' invariants and first rounds, under names `K`. -/
def records (K : Dev nD × KIx → ℕ) : sProp 𝕄 :=
  iprop((bigSep Finset.univ fun ck : Dev nD × KIx => cellInv ER (Rd m ρ) (K ck) (kcell ck))
    ∗ bigSep Finset.univ fun ck : Dev nD × KIx => reached ER (kcell ck) 0)
/-- The records may be kept and used again. -/
instance records_persistent (K : Dev nD × KIx → ℕ) : BI.Persistent (records m ρ K) := by unfold records; infer_instance

/-- What the allocation of the cells makes of it. -/
def G' (c : Dev nD) : sProp 𝕄 := iprop((∃ K, records m ρ K) ∗ linear c)

/-- The launch element is every device's deal. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The own semaphores, family by family; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma xS) 0 ∗ (bigSep Finset.univ fun k => semVal ((c : Thread nD τ), .dma (copyS k)) 0)
        ∗ (bigSep Finset.univ fun k => semVal (sendCell c k) 0) ∗ bigSep Finset.univ fun j => semVal (recvCell c j) 0) := by
  unfold Pipeline.ownSems0
  rw [bigSep_univ_sum, bigSep_univ_sum, bigSep_univ_sum, Finset.univ_unique, bigSep_singleton]; rfl
omit [FloatOps F] in
/-- the barrier's is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's shared cells opened with their counters at zero; its copies' semaphores kept. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ copySems c) := by
  rw [ownSems0_eq, unscopedSems0_eq]
  unfold G copySems
  iintro ⟨⟨HX, HC, HS, HR⟩, HB, Hst, Hat, Htok⟩
  ihave Hv := (Entails.of_eq (bigSep_cells (F := F) c fun g => semVal g 0).symm) $$ [HB HS HR]
  · isplitl [HB]; · iexact HB
    isplitl [HS] <;> iassumption
  imod (show iprop((bigSep Finset.univ fun k : KIx => semVal (kcell (c, k)) 0) ∗ bigSep Finset.univ fun k : KIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HX]; · iexact HX
  iexact HC

omit [FloatOps F] in
/-- Two families over the devices, taken in the other order. -/
theorem swap (Φ : Dev nD → Dev nD → sProp 𝕄) :
    (bigSep Finset.univ fun c => bigSep Finset.univ fun d => Φ c d) = bigSep Finset.univ fun d => bigSep Finset.univ fun c => Φ c d :=
  (bigSep_univ_prod fun p : Dev nD × Dev nD => Φ p.1 p.2).symm.trans
    ((bigSep_univ_equiv (Equiv.prodComm (Dev nD) (Dev nD)) fun p : Dev nD × Dev nD => Φ p.1 p.2).trans
      (bigSep_univ_prod fun p : Dev nD × Dev nD => Φ p.2 p.1))

omit [FloatOps F] in
/-- Anything may be dropped. -/
theorem drop_all (P : sProp 𝕄) : P ⊢ iprop(emp) := by iintro -; iempintro

omit [FloatOps F] in
/-- A slot's two tokens; a slot whose block stays with its device takes none. -/
theorem slot_toks : (bigSep Finset.univ fun c : Dev nD => iprop((bigSep Finset.univ fun k : Fin 8 => dutyTok ER (sendCell c k) 0 (0 : Dev nD))
      ∗ bigSep Finset.univ fun k : Fin 8 => dutyTok ER (recvCell (slots c k) c) 0 (0 : Dev nD)) : sProp 𝕄)
    ⊢ bigSep Finset.univ fun c : Dev nD => bigSep Finset.univ fun k : Fin 8 => SlotTok c k := by
  refine bigSep_mono fun c _ => ?_
  rw [← bigSep_sep']
  refine bigSep_mono fun k _ => ?_
  unfold SlotTok
  split
  · exact drop_all _
  · exact BI.Entails.refl _

omit [FloatOps F] in
/-- The tokens dealt to those who pay them: a barrier's to the device each names, a receive's to the device it receives
    from, each with the token of that device's own slot. -/
theorem toks_around : (bigSep Finset.univ fun c : Dev nD => (toks c : sProp 𝕄)) ⊢ bigSep Finset.univ fun c : Dev nD => payToks c := by
  unfold toks payToks
  rw [bigSep_sep', bigSep_sep', bigSep_sep',
    swap (fun c d : Dev nD => (dutyTok ER (barCell c) 0 d : sProp 𝕄)),
    swap (fun c j : Dev nD => (dutyTok ER (recvCell c j) 0 (0 : Dev nD) : sProp 𝕄)),
    bigSep_congr (s := Finset.univ) (fun (j : Dev nD) _ => bigSep_univ_equiv (slots j) (fun c : Dev nD => (dutyTok ER (recvCell c j) 0 (0 : Dev nD) : sProp 𝕄)))]
  iintro ⟨HB, HS, HR⟩
  isplitl [HB]; · iexact HB
  iapply (slot_toks (F := F))
  rw [bigSep_sep']
  isplitl [HS] <;> iassumption

omit [FloatOps F] in
/-- A fact that may be kept is at hand in every conjunct. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One naming of every device's cells, known to every device. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ copySems c) : sProp 𝕄)
      ⊢ bigSep Finset.univ (G' m ρ) := by
  rw [bigSep_sep', bigSep_sep', bigSep_sep', ← bigSep_univ_prod (fun ck : Dev nD × KIx => iprop(∃ κ : ℕ, cellInv ER (Rd m ρ) κ (kcell ck))),
    bigSep_congr (s := Finset.univ) (fun (c : Dev nD) _ => bigSep_sep' Finset.univ (fun k : KIx => (atPos ER (kcell (c, k)) 0 ∅ 0 : sProp 𝕄)) (fun k => reached ER (kcell (c, k)) 0)),
    bigSep_sep', ← bigSep_univ_prod (fun ck : Dev nD × KIx => (reached ER (kcell ck) 0 : sProp 𝕄))]
  iintro ⟨HI, ⟨Hat, #HR⟩, Htok, Hcs⟩
  ihave HK := (BI.bigSep_exists_pi Finset.univ (fun (ck : Dev nD × KIx) (κ : ℕ) => (cellInv ER (Rd m ρ) κ (kcell ck) : sProp 𝕄))) $$ HI
  icases HK with ⟨%K, #HI⟩
  ihave Htk := (toks_around (F := F)) $$ Htok
  iapply (bigSep_with_persistent (R := records m ρ K) (Φ := linear) (Ψ := G' m ρ) (fun c _ => by
    unfold G'; iintro ⟨#H, Hl⟩; isplitr; · iexists K; iexact H
    iexact Hl))
  isplitr
  · unfold records; isplitl; · iexact HI
    iexact HR
  · unfold linear
    rw [bigSep_sep', bigSep_sep']
    isplitl [Hat]; · iexact Hat
    isplitl [Htk] <;> iassumption

/-- The launch's step over every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A barrier cell tells its device. -/
theorem barCell_inj {a b : Dev nD} (h : barCell a = barCell b) : a = b :=
  Fin.ext (congrArg (fun g : GSem nD τ sig => g.1.1.val) h)
/-- A receive cell tells its device and the sender. -/
theorem recvCell_inj {a b j j' : Dev nD} (h : recvCell a j = recvCell b j') : a = b ∧ j = j' :=
  have e := kcell_injective (a₁ := (a, .inr (.inr j))) (a₂ := (b, .inr (.inr j'))) h
  ⟨congrArg Prod.fst e, by injection congrArg Prod.snd e with e; injection e⟩
/-- No barrier cell is a receive cell. -/
theorem bar_ne_recv (a b j : Dev nD) : barCell a ≠ recvCell b j := fun h => by have := congrArg Prod.snd h; cases this

/-- A unit is owed every barrier cell, and the slots' credit. -/
theorem O₀_apply (d : Dev nD) (g : GSem nD τ sig) :
    O₀ d g () = (∑ k : Fin 8, sendO d k g ()) + ∑ e : Dev nD, tallyAt (barCell e) () 1 g () := by
  have h1 : O₀ d g () = 0 + sendO d 7 g () + sendO d 6 g () + sendO d 5 g () + sendO d 4 g () + sendO d 3 g () + sendO d 2 g () + sendO d 1 g () + sendO d 0 g ()
    + tallyAt (barCell 7) () 1 g () + tallyAt (barCell 6) () 1 g () + tallyAt (barCell 5) () 1 g () + tallyAt (barCell 4) () 1 g ()
    + tallyAt (barCell 3) () 1 g () + tallyAt (barCell 2) () 1 g () + tallyAt (barCell 1) () 1 g () + tallyAt (barCell 0) () 1 g () := rfl
  have h2 : (∑ e : Dev nD, tallyAt (barCell e) () 1 g ()) = tallyAt (barCell 0) () 1 g () + tallyAt (barCell 1) () 1 g () + tallyAt (barCell 2) () 1 g ()
    + tallyAt (barCell 3) () 1 g () + tallyAt (barCell 4) () 1 g () + tallyAt (barCell 5) () 1 g () + tallyAt (barCell 6) () 1 g () + tallyAt (barCell 7) () 1 g () :=
    Fin.sum_univ_eight _
  rw [h1, h2, Fin.sum_univ_eight]; omega

/-- Every device owes every barrier cell one unit. -/
theorem owed_bar (d c : Dev nD) : O₀ d (barCell c) () = 1 := by
  rw [O₀_apply, Finset.sum_eq_zero (fun k _ => by
      unfold sendO; split
      · rfl
      · rw [tallyAt_ne_cell (bar_ne_recv _ _ _)]; rfl), Nat.zero_add,
    Finset.sum_congr rfl (fun (e : Dev nD) _ => show tallyAt (barCell e) () 1 (barCell c) () = if c = e then 1 else 0 from by
      rw [tallyAt_apply]
      by_cases h : c = e
      · subst h; rw [if_pos ⟨rfl, rfl⟩, if_pos rfl]
      · rw [if_neg (fun h' => h (barCell_inj h'.1)), if_neg h])]
  rw [Finset.sum_ite_eq, if_pos (Finset.mem_univ _)]

/-- The credit of another device's block is owed by that device alone. -/
theorem owed_recv (d c j : Dev nD) (hj : j ≠ c) : O₀ d (recvCell c j) () = if d = j then N else 0 := by
  rw [O₀_apply, Finset.sum_eq_zero (s := Finset.univ) (f := fun e : Dev nD => tallyAt (barCell e) () 1 (recvCell c j) ()) (fun e _ => by
      rw [tallyAt_ne_cell (bar_ne_recv _ _ _).symm]; rfl), Nat.add_zero,
    Finset.sum_congr rfl (fun (k : Fin 8) _ => show sendO d k (recvCell c j) () = if slotOf d c = k then (if d = j then N else 0) else 0 from by
      by_cases hk : slotOf d c = k
      · subst hk
        rw [if_pos rfl]
        unfold sendO
        rw [tgt_slotOf]
        by_cases hd : d = j
        · subst hd; rw [if_neg (fun h => hj h.symm), if_pos rfl, tallyAt_apply, if_pos ⟨rfl, rfl⟩]
        · rw [if_neg hd]; split
          · rfl
          · rw [tallyAt_apply, if_neg (fun h => hd (recvCell_inj h.1).2.symm)]
      · rw [if_neg hk]
        unfold sendO; split
        · rfl
        · rw [tallyAt_apply, if_neg (fun h => hk (by rw [(recvCell_inj h.1).1, slotOf_tgt]))])]
  rw [Finset.sum_ite_eq, if_pos (Finset.mem_univ _)]

/-- At launch a barrier has eight units owed to it. -/
theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => owed_bar d c]; rfl
/-- At launch the receive cell for another device's block has one block's credit owed to it. -/
theorem launch_recv (c j : Dev nD) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j hj, Finset.sum_ite_eq' Finset.univ j fun _ => N,
    if_pos (Finset.mem_univ _)]

/-- The receive semaphores of the seven other devices' blocks. -/
abbrev otherSem (c : Dev nD) (r : Fin 7) : SemLoc sig := .dma (recvS (nbr c ⟨1 + r.val, by omega⟩))
/-- The semaphores that are not shared are distinct. -/
theorem otherSem_injective (c : Dev nD) : Function.Injective (otherSem c) := by revert c; decide +kernel

omit [FloatOps F] in
/-- The launch's credit holds what a device's waits take. -/
theorem creds (c : Dev nD) : (Pipeline.launchCred O₀ c : sProp 𝕄) ⊢ waitCreds c := by
  unfold Pipeline.launchCred waitCreds
  rw [bigSep_univ_at _ (SemLoc.reg barS), launch_bar]
  refine sep_mono_right ?_
  refine BI.Entails.trans (bigSep_subset (t := Finset.univ.map ⟨otherSem c, otherSem_injective c⟩) (fun x hx => ?_)) ?_
  · obtain ⟨r, -, rfl⟩ := Finset.mem_map.mp hx
    exact Finset.mem_erase.mpr ⟨(by intro h; cases h), Finset.mem_univ _⟩
  · rw [bigSep_map]
    refine bigSep_mono fun r _ => ?_
    show cred (tallyOn (recvCell c (nbr c ⟨1 + r.val, by omega⟩)) (launchCredit (Pipeline.owing O₀) 0 (recvCell c (nbr c ⟨1 + r.val, by omega⟩)))) ⊢ _
    rw [launch_recv c _ (nbr_ne c r)]

/-! ## The launch's side conditions -/

/-- What the launch hands a device is what its run starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ args m fullShare.right c) := by
  rw [Pipeline.unscopedRestP_none, show Pipeline.unscopedRest cfg0.spec c (fun b => m ((c : Thread nD τ).loc b)) = _ from unscopedRest0_eq (Ix := Unit) (Name := ℕ) (U := UU) (Lvl := ℕ) c _]
  iintro ⟨⟨HA, HW⟩, #Hlev, Hcr, -, HG⟩
  ihave Hc := (creds (F := F) c) $$ Hcr
  ihave HA' := (pointsTo_share (PosShare.mem_left_op_right fullShare)).1 $$ HA
  ihave HW' := (pointsTo_share (PosShare.mem_left_op_right fullShare)).1 $$ HW
  icases HA' with ⟨HA, HA2⟩
  icases HW' with ⟨HW, HW2⟩
  unfold G' records
  icases HG with ⟨⟨%K, ⟨#HI, #HR⟩⟩, Hl⟩
  imodintro
  unfold start args know
  isplitr [HA2 HW2]
  · isplitr [Hl Hc HA HW]
    · iexists K
      isplitr; · iexact Hlev
      isplitr; · iexact HI
      iexact HR
    isplitl [Hl]; · iexact Hl
    isplitl [Hc]; · iexact Hc
    isplitl [HA] <;> iassumption
  · isplitl [HA2] <;> iassumption

/-- With the scratch buffers this is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show Pipeline.scopedRest cfg0.spec c = _ from scopedRest0_eq (Ix := Unit) (Name := ℕ) (U := UU) (Lvl := ℕ) (Val := Elt F) c]
  unfold Φ₀ scratch
  iintro ⟨Hs, -, Hr⟩
  isplitl [Hs] <;> iassumption

/-- What the body ends with is what the launch takes back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest cfg0.spec c = _ from scopedRest0_eq (Ix := Unit) (Name := ℕ) (U := UU) (Lvl := ℕ) (Val := Elt F) c,
    ownSems0_eq, unscopedSems0_eq]
  unfold Φ₁ scratch ownZero copySems
  iintro ⟨Hr, ⟨⟨HX, HC⟩, HS, HR⟩, HB⟩
  isplitl [HB]; · iexact HB
  isplitr [Hr]
  · isplitl [HX]; · iexact HX
    isplitl [HC]; · iexact HC
    isplitl [HS] <;> iassumption
  · iexact Hr

/-- Each wait of the staging copies is below everything that the device owes. -/
theorem waits (c : Dev nD) : (levAts L lv : sProp 𝕄) ⊢ Pipeline.cellsWaits cfgs (dats m ρ) () 0 c :=
  Pipeline.cellsWaits_intro cfgs (dats m ρ) () 0 c fun w s t =>
    mayWait_below c _ (n := 1) (by fin_cases w <;> fin_cases s <;> decide) (by
      rcases t with ⟨_ | _, ht⟩
      · exact above_Obar c 8
      · exact Above.zero 1)

/-- Each staged array is held whole. -/
theorem share_eq (c : Dev nD) (w : Fin cfg0.W) : (dats m ρ 0 c).share w = fullShare := by unfold Dat.share; split <;> rfl

/-! ## The run -/

/-- What the pipeline leaves in each window's array. -/
def finalA (c : Dev nD) (w : Fin cfg0.W) : Buf (Elt F) ((cfg0.win w).arr.view.loc (c : Thread nD τ)) := (dats m ρ 0 c).arrAt w cfg0.N

/-- What the run leaves of the two arguments the body reads itself, and of the barrier semaphores. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_arg1) = m ((c : Thread nD τ).loc main_arg1)

/-- The arguments held at the end are read off the final memory. -/
theorem final_read (c : Dev nD) (s' : Phys nD τ sig (Elt F)) :
    iprop(unscopedSems0 c ∗ args m fullShare.right c ∗ SI s') ⊢ |={Set.univ}=> (iprop(⌜QY m c s'.mem⌝ ∗ SI s') : sProp 𝕄) := by
  unfold args
  iintro ⟨Hu, ⟨HA, HW⟩, HSI⟩
  icombine HSI HA gives %hA
  icombine HSI HW gives %hW
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hA, Buf.eq_of_forall_mem_univ hW⟩
  · iexact HSI

/-- The final states: each window's array as the pipeline leaves it, the other two arguments unchanged. -/
def QC (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0) ∧ r.2.mem ((c : Thread nD τ).loc main_arg1) = m ((c : Thread nD τ).loc main_arg1)

set_option maxRecDepth 65536 in
/-- For any float values, from any memory with zero counters, every weakly fair execution of the eight devices
    terminates, its arrays and arguments as `QC` says and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H2 := (own_pair_emb embR (initOf ringCells ringToks) (1 : Counters)) $$ HX
      icases H2 with ⟨HX, -⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := args m fullShare.right)
    (hX := start_intro m ρ) (hin := phi0_intro m ρ) (hout := phi1_exit m ρ)
    (QY := QY m) (hY := final_read m)
    (hQ := fun _ h hs => ⟨fun c => ⟨(h c).1, (h c).2.2.2⟩, sem_eq_zero hs fun c => (h c).2.2.1⟩)

end Cert.KernelProof

end
-- ==== Proof.Value.lean ====
/-
The value of the output over the extended reals: entry (r, l) of device `c`'s output is entry (r, 256 c + l) of the
rectified, scaled product of the whole arrays.
-/
module

public import proofs.«01_k».proof.Proof.Launch
public import Idealize.ShloMosaic.Lib.MatmulPlain
public import Idealize.ShloMosaic.Lib.StackMember

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- A device's four arguments, as numbers. -/
def xA (c : Dev nD) : S512x4096.Idx → EReal := m ((c : Thread nD τ).loc main_arg0)
/-- Its weights, -/
def wA (c : Dev nD) : S4096x2048.Idx → EReal := m ((c : Thread nD τ).loc main_arg1)
/-- its first scale, -/
def aA (c : Dev nD) : S1.Idx → EReal := m ((c : Thread nD τ).loc main_arg2)
/-- and its second. -/
def bA (c : Dev nD) : S1.Idx → EReal := m ((c : Thread nD τ).loc main_arg3)

/-! ## The products -/

/-- The kernel's product is the plain one of two matrices. -/
theorem dims_plain : dot_S512x1024_S1024x512_S512x512_1_0_0_1_n_n = DotDims.plain 512 1024 512 := rfl

/-- A product over the columns of `x` from `o` on, entry by entry: the sum over its 1024 terms. -/
theorem prod_apply (o : ℕ) (ho : o + 1024 ≤ 4096) (h : S512x4096.Slices ![0, o] S512x1024) (xq : FVec Ideal S512x4096 .fp8e4m3)
    (w : Vec Ideal S1024x512 .f32) (r l : Fin 512) :
    matmul dot_S512x1024_S1024x512_S512x512_1_0_0_1_n_n none (extractStridedSlice S512x1024 ![0, o] xq h)
        (truncf .fp8e5m2 w bitsLt_fp8e5m2_f32) (constant S512x512 .f32 0x00000000#32) (ix2 r l)
      = ∑ k : Fin 1024, xq (ix2 r ⟨o + k.val, by omega⟩) * w (ix2 k l) := by
  rw [dims_plain]
  show FloatOps.matmul _ _ _ _ _ _ = _
  rw [Ideal.matmul_plain_apply, constant_apply, Ideal.ofBits_zero_f32, zero_add]
  refine Finset.sum_congr rfl fun k _ => ?_
  rw [truncf_apply, extractStridedSlice_apply (k := ix2 r ⟨o + k.val, by omega⟩)]
  intro a; match a with
  | ⟨0, _⟩ => exact (Nat.zero_add _).symm
  | ⟨1, _⟩ => rfl

/-- A weight chunk's entry in the whole weight array. -/
theorem wChunk_apply (c : Dev nD) (q : Fin 16) (k : Fin 1024) (l : Fin 512) :
    wChunk m c q (ix2 k l) = wA m c
      (ix2 ⟨1024 * (q.val % 4) + k.val, by omega⟩ ⟨512 * ((c.val % 4 + q.val / 4) % 4) + l.val, by omega⟩) :=
  congrArg (wA m c) (funext fun a => Fin.ext (by
    match a with
    | ⟨0, _⟩ => exact congrArg (1024 * (q.val % 4) + ·) (Nat.one_mul _)
    | ⟨1, _⟩ => exact congrArg (512 * ((c.val % 4 + q.val / 4) % 4) + ·) (Nat.one_mul _)))

/-- A sum over 4096 terms is its four quarters', added in order. -/
theorem sum_quarters (f : Fin 4096 → EReal) :
    ∑ K : Fin 4096, f K = (∑ k : Fin 1024, f ⟨0 + k.val, by omega⟩) + (∑ k : Fin 1024, f ⟨1024 + k.val, by omega⟩)
      + (∑ k : Fin 1024, f ⟨2048 + k.val, by omega⟩) + ∑ k : Fin 1024, f ⟨3072 + k.val, by omega⟩ := by
  rw [← Equiv.sum_comp (finProdFinEquiv : Fin 4 × Fin 1024 ≃ Fin 4096), Fintype.sum_prod_type, Fin.sum_univ_four]
  have e (a : Fin 4) (o : ℕ) (h : o = 1024 * a.val) : (∑ k : Fin 1024, f (finProdFinEquiv (a, k))) = ∑ k : Fin 1024, f ⟨o + k.val, by omega⟩ :=
    Finset.sum_congr rfl fun k _ => congrArg f (Fin.ext (by show k.val + 1024 * a.val = o + k.val; omega))
  rw [e 0 0 rfl, e 1 1024 rfl, e 2 2048 rfl, e 3 3072 rfl]

/-- Entry (r, l) of the answer of a pass against column group `g`: scaled and rectified. -/
def entry (c : Dev nD) (col : Fin 2048) (r : Fin 512) : EReal :=
  max ((∑ K : Fin 4096, (xA m c (ix2 r K)) * wA m c (ix2 K col))
    * scaleVal m ρ c) 0

/-- The four chunks of one pass: their products added are the whole product. -/
theorem acc3_apply (c : Dev nD) (q q' q'' q3 : Fin 16) (g : ℕ) (hg : g < 4)
    (h : q.val % 4 = 0 ∧ q'.val % 4 = 1 ∧ q''.val % 4 = 2 ∧ q3.val % 4 = 3)
    (hc : (c.val % 4 + q.val / 4) % 4 = g ∧ (c.val % 4 + q'.val / 4) % 4 = g ∧ (c.val % 4 + q''.val / 4) % 4 = g ∧ (c.val % 4 + q3.val / 4) % 4 = g)
    (r l : Fin 512) :
    acc3 m c q q' q'' q3 (ix2 r l)
      = ∑ K : Fin 4096, (xA m c (ix2 r K)) * wA m c (ix2 K ⟨512 * g + l.val, by omega⟩) := by
  have e (s : Fin 16) (o : ℕ) (ho : o + 1024 ≤ 4096) (hs : S512x4096.Slices ![0, o] S512x1024) (h4 : 1024 * (s.val % 4) = o) (hcs : (c.val % 4 + s.val / 4) % 4 = g) :
      matmul dot_S512x1024_S1024x512_S512x512_1_0_0_1_n_n none (extractStridedSlice S512x1024 ![0, o] (xqVal m c) hs)
        (truncf .fp8e5m2 (wChunk m c s) bitsLt_fp8e5m2_f32) (constant S512x512 .f32 0x00000000#32) (ix2 r l)
      = ∑ k : Fin 1024, (xA m c (ix2 r ⟨o + k.val, by omega⟩) : EReal)
          * wA m c (ix2 ⟨o + k.val, by omega⟩ ⟨512 * g + l.val, by omega⟩) := by
    subst h4 hcs
    rw [prod_apply _ ho]
    exact Finset.sum_congr rfl fun k _ => by rw [wChunk_apply]; rfl
  rw [sum_quarters]
  unfold acc3 acc2 acc1 acc0 prod0 prod1 prod2 prod3
  rw [addf_apply, addf_apply, addf_apply, e q 0 (by omega) _ (by omega) hc.1, e q' 1024 (by omega) _ (by omega) hc.2.1,
    e q'' 2048 (by omega) _ (by omega) hc.2.2.1, e q3 3072 (by omega) _ (by omega) hc.2.2.2]

/-- Scaling and rectifying, entry by entry. -/
theorem finish_apply (s : Ideal .f32) (a : FVec Ideal S512x512 .f32) (i : S512x512.Idx) : finish s a i = max (a i * s) 0 := by
  unfold finish
  rw [truncf_apply, maximumf_apply, mulf_apply, broadcast_apply, broadcast_apply]
  exact congrArg (max _) Ideal.ofBits_zero_f32

/-- An entry of the tile of pass `p`. -/
theorem tile_apply (c : Dev nD) (p : Fin 4) (r l : Fin 512) :
    tile m ρ c p (ix2 r l) = entry m ρ c ⟨512 * ((c.val % 4 + p.val) % 4) + l.val, by omega⟩ r := by
  unfold entry
  match p with
  | 0 => exact (finish_apply _ _ _).trans (congrArg (fun s => max (s * scaleVal m ρ c) 0) (acc3_apply m c 0 1 2 3 _ (Nat.mod_lt _ (by omega)) (by decide) ⟨rfl, rfl, rfl, rfl⟩ r l))
  | 1 => exact (finish_apply _ _ _).trans (congrArg (fun s => max (s * scaleVal m ρ c) 0) (acc3_apply m c 4 5 6 7 _ (Nat.mod_lt _ (by omega)) (by decide) ⟨rfl, rfl, rfl, rfl⟩ r l))
  | 2 => exact (finish_apply _ _ _).trans (congrArg (fun s => max (s * scaleVal m ρ c) 0) (acc3_apply m c 8 9 10 11 _ (Nat.mod_lt _ (by omega)) (by decide) ⟨rfl, rfl, rfl, rfl⟩ r l))
  | 3 => exact (finish_apply _ _ _).trans (congrArg (fun s => max (s * scaleVal m ρ c) 0) (acc3_apply m c 12 13 14 15 _ (Nat.mod_lt _ (by omega)) (by decide) ⟨rfl, rfl, rfl, rfl⟩ r l))

/-- An entry of a tile's left half, -/
theorem lo_apply (y : FVec Ideal S512x512 .bf16) (r : Fin 512) (l : Fin 256) : lo y (ix2 r l) = y (ix2 r ⟨256 * 0 + l.val, by omega⟩) :=
  extractStridedSlice_apply _ _ _ _ _ fun a => by match a with
    | ⟨0, _⟩ => exact (Nat.zero_add _).symm
    | ⟨1, _⟩ => rfl
/-- and of its right half. -/
theorem hi_apply (y : FVec Ideal S512x512 .bf16) (r : Fin 512) (l : Fin 256) : hi y (ix2 r l) = y (ix2 r ⟨256 * 1 + l.val, by omega⟩) :=
  extractStridedSlice_apply _ _ _ _ _ fun a => by match a with
    | ⟨0, _⟩ => exact (Nat.zero_add _).symm
    | ⟨1, _⟩ => rfl

/-- Slot `k` holds the half `k % 2` of the answer of pass `k / 2`. -/
theorem yv_apply (c : Dev nD) (k : Fin 8) (r : Fin 512) (l : Fin 256) :
    yv m ρ c k (ix2 r l) = tile m ρ c ⟨k.val / 2, by omega⟩ (ix2 r ⟨256 * (k.val % 2) + l.val, by omega⟩) := by
  match k with
  | 0 | 2 | 4 | 6 => exact lo_apply _ r l
  | 1 | 3 | 5 | 7 => exact hi_apply _ r l

/-- The columns of the slot for a device are that device's. -/
theorem slot_col (j t : Dev nD) : 512 * ((j.val % 4 + (slotOf j t).val / 2) % 4) + 256 * ((slotOf j t).val % 2) = 256 * t.val := by
  revert j t; decide +kernel

/-- What device `j` computed for `t`: its rows against `t`'s 256 columns. -/
theorem blk_apply (j t : Dev nD) (r : Fin 512) (l : Fin 256) :
    blk m ρ j t (ix2 r l) = entry m ρ j ⟨256 * t.val + l.val, by have : t.val < 8 := t.isLt; omega⟩ r := by
  unfold blk
  rw [yv_apply, tile_apply]
  have := slot_col j t
  exact congrArg (fun c => entry m ρ j c r) (Fin.ext (by
    show 512 * ((j.val % 4 + (slotOf j t).val / 2) % 4) + (256 * ((slotOf j t).val % 2) + l.val) = 256 * t.val + l.val
    rw [← Nat.add_assoc, this]))

/-- A scale has one entry. -/
instance : Subsingleton (S1.Idx) := ⟨fun a b => funext fun d => Fin.ext (by
  have h1 : (a d).val < 1 := by have := (a d).isLt; match d with | ⟨0, _⟩ => exact this
  have h2 : (b d).val < 1 := by have := (b d).isLt; match d with | ⟨0, _⟩ => exact this
  omega)⟩

/-- The scale is the product of the two scales given. -/
theorem scale_apply (c : Dev nD) : scaleVal m ρ c
    = aA m c (ix1 0) * bA m c (ix1 0) := by
  have h2 : sxVal m ρ c = aA m c (ix1 0) :=
    congrArg (m ((c : Thread nD τ).loc main_arg2)) (Subsingleton.elim (α := S1.Idx) _ _)
  have h3 : swVal m ρ c = bA m c (ix1 0) :=
    congrArg (m ((c : Thread nD τ).loc main_arg3)) (Subsingleton.elim (α := S1.Idx) _ _)
  unfold scaleVal
  rw [h2, h3]; rfl

end Cert.KernelProof

end
-- ==== Proof.Claims.lean ====
/-
The claims: the run read at the arguments and the result, and the result's value against the reference's.
-/
module

public import proofs.«01_k».proof.Defs
public import proofs.«01_k».proof.Proof.Value
public import proofs.«01_k».proof.Proof.Gen.Kernel
public import proofs.«01_k».proof.Proof.Gen.ReferenceIdeal.Run

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The run, buffer by buffer -/

section Run

variable {F : FTy → Type} [FloatOps F] (m : (ℓ : Loc nD τ sig) → Buf (Elt F) ℓ) (ρ : Dev nD → PrngReg)

/-- The scales are inputs: their arrays end as they began. -/
theorem finalA_sx (c : Dev nD) : finalA m ρ c (0 : Fin 3) = m ((c : Thread nD τ).loc main_arg2) := (dats (F := F) m ρ 0 c).arrAt_in (0 : Fin 3) rfl _
/-- The second scale, likewise. -/
theorem finalA_sw (c : Dev nD) : finalA m ρ c (1 : Fin 3) = m ((c : Thread nD τ).loc main_arg3) := (dats (F := F) m ρ 0 c).arrAt_in (1 : Fin 3) rfl _

/-- The result's array ends holding the output. -/
theorem finalA_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

/-- Every weakly fair execution ends with each device's output in its result, its arguments unchanged and every counter
    at zero. -/
theorem run_all : θ_run defs (onTc (τ := τ) (main (F := F))) (s₀ m ρ) (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨((h.1 c).1 (2 : Fin 3)).trans (finalA_out m ρ c), (h.1 c).2.1, (h.1 c).2.2,
      ((h.1 c).1 (0 : Fin 3)).trans (finalA_sx m ρ c), ((h.1 c).1 (1 : Fin 3)).trans (finalA_sw m ρ c)⟩, h.2⟩) (run_main m ρ)

end Run

/-! ## The frames -/

/-- The two programs' body tables are one: the same text, label by label, -/
theorem defs₀_eq : Cert.Kernel.defs₀ (F := Bits) = Cert.KernelIdeal.defs₀ (F := Bits) :=
  congrArg Defs.onTc (funext fun l => funext fun a => by
    match l, a with
    | 0, (t, s) => rfl
    | ⟨_ + 1, h⟩, _ => exact absurd h (Nat.not_lt.2 (Nat.le_add_left _ _)))
/-- and so are their calls. -/
theorem defs_eq : Cert.Kernel.defs (F := Bits) = Cert.KernelIdeal.defs (F := Bits) := by
  unfold Cert.Kernel.defs; rw [defs₀_eq]; rfl

/-- The kernel runs, leaves its arguments unchanged and every counter at zero. -/
theorem frame_kernel : Cert.quiescent_Kernel := by
  intro m ρ _
  rw [defs_eq]
  exact (θ_run Cert.KernelIdeal.defs _ _).mono (fun _ h => ⟨fun c => (h.1 c).2, h.2⟩) (run_all (F := Bits) m ρ)
/-- So does the kernel over the extended reals. -/
theorem frame_ideal : Cert.quiescent_KernelIdeal := fun m ρ _ =>
  (θ_run Cert.KernelIdeal.defs _ _).mono (fun _ h => ⟨fun c => (h.1 c).2, h.2⟩) (run_all (F := Ideal) m ρ)
/-- The reference runs, leaves its arguments unchanged, and has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

section Ref

variable (X : Cert.ReferenceIdeal.S4096x4096.Idx → EReal) (W : Cert.ReferenceIdeal.S4096x2048.Idx → EReal) (a b : Cert.ReferenceIdeal.S1.Idx → EReal)

/-- The reference's result as the reference's operations make it of its arguments. -/
def refOut : FVec Ideal Cert.ReferenceIdeal.S4096x2048 .bf16 :=
  truncf .bf16 (maximumf (mulf (Host.dotGeneral (φ₁ := .f32) (φ₂ := .f32) Cert.ReferenceIdeal.dot_S4096x4096_S4096x2048_S4096x2048_1_0_0_1_n_n none X W)
      (broadcastInDim Cert.ReferenceIdeal.S4096x2048 ![0, 1] Cert.ReferenceIdeal.Gen.bcast_S1x1_S4096x2048_0_1
        (broadcastInDim Cert.ReferenceIdeal.S1x1 ![1] Cert.ReferenceIdeal.Gen.bcast_S1_S1x1_1 (mulf (φ := .f32) a b))))
      (broadcastInDim Cert.ReferenceIdeal.S4096x2048 ![] Cert.ReferenceIdeal.Gen.bcast_S_S4096x2048 (constant Cert.ReferenceIdeal.S_ .f32 0x00000000#32)))
    Cert.ReferenceIdeal.Gen.bitsLt_bf16_f32

/-- The reference's product is the plain one of two matrices. -/
theorem ref_plain : Cert.ReferenceIdeal.dot_S4096x4096_S4096x2048_S4096x2048_1_0_0_1_n_n = DotDims.plain 4096 4096 2048 := rfl

/-- The reference's result, entry by entry. -/
theorem refOut_apply (R : Fin 4096) (C : Fin 2048) :
    refOut X W a b (ix2 R C) = max ((∑ K : Fin 4096, X (ix2 R K) * W (ix2 K C)) * (a (ix1 0) * b (ix1 0))) 0 := by
  unfold refOut
  rw [truncf_apply, maximumf_apply, mulf_apply, ref_plain, StackMember.dotGeneral_plain_apply]
  refine congrArg₂ max (congrArg₂ (· * ·) rfl ?_) Ideal.ofBits_zero_f32
  rw [broadcastInDim_apply (k := ix2 0 0), broadcastInDim_apply (k := ix1 0)]
  · rfl
  all_goals exact fun d => by fin_cases d <;> rfl

end Ref

variable (m : (ℓ : Loc nD τ sig) → Buf (Elt Ideal) ℓ) (ρ : Dev nD → PrngReg)

/-- Device `c`'s output is its block of the reference's result, when each device's arguments are its parts of the
    reference's. -/
theorem outAt_eq (X : Cert.ReferenceIdeal.S4096x4096.Idx → EReal) (W : Cert.ReferenceIdeal.S4096x2048.Idx → EReal) (a b : Cert.ReferenceIdeal.S1.Idx → EReal)
    (h : ∀ c : Dev nD, xA m c = Layout.block ⟨2, ![512, 4096]⟩ ⟨2, ![4096, 4096]⟩ 0 8 c X ∧ wA m c = W ∧ aA m c = a ∧ bA m c = b) (c : Dev nD) :
    outAt m ρ c = Layout.block ⟨2, ![4096, 256]⟩ ⟨2, ![4096, 2048]⟩ 1 8 c (refOut X W a b) := by
  have hc : c.val < 8 := c.isLt
  funext i
  obtain ⟨r, l, rfl⟩ : ∃ (r : Fin 4096) (l : Fin 256), i = ix2 r l := ⟨i 0, i 1, eq_ix2 i⟩
  have hr : (ix2 r l : S4096x256.Idx) 0 = r := rfl
  have hb : (Layout.block ⟨2, ![4096, 256]⟩ ⟨2, ![4096, 2048]⟩ 1 8 c (refOut X W a b)) (ix2 r l)
      = refOut X W a b (ix2 r ⟨256 * c.val + l.val, by omega⟩) :=
    congrArg (refOut X W a b) (funext fun d => Fin.ext (by
      match d with
      | ⟨0, _⟩ => rfl
      | ⟨1, _⟩ => exact congrArg (· + l.val) (Nat.mul_comm c.val 256)))
  have ho : outAt m ρ c (ix2 r l) = blk m ρ (⟨r.val / 512, by show _ < 8; omega⟩ : Dev nD) c (ix2 ⟨r.val % 512, Nat.mod_lt _ (by decide)⟩ l) :=
    congrArg (blk m ρ (⟨r.val / 512, by show _ < 8; omega⟩ : Dev nD) c) (funext fun d => by
      match d with
      | ⟨0, _⟩ => rfl
      | ⟨1, _⟩ => rfl)
  rw [hb, ho, blk_apply, refOut_apply]
  unfold entry
  rw [scale_apply, (h _).2.1, (h _).2.2.1, (h _).2.2.2, (h _).1]
  refine congrArg (fun s => max (s * (a (ix1 0) * b (ix1 0))) 0) (Finset.sum_congr rfl fun K _ => congrArg (· * W (ix2 K _)) (congrArg X (funext fun d => Fin.ext ?_)))
  match d with
  | ⟨0, _⟩ => show r.val / 512 * 512 + r.val % 512 = r.val; exact Nat.div_add_mod' r.val 512
  | ⟨1, _⟩ => rfl

/-- The value claim: both run, and each device's result is its block of the reference's. -/
theorem value : Cert.algebraic_KernelIdeal_ReferenceIdeal := by
  intro m ρ m' ρ' _ h
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · exact (θ_run Cert.KernelIdeal.defs _ _).mono (fun _ hr c => ⟨((hr.1 c).1).trans (outAt_eq m ρ _ _ _ _ h c), (hr.1 c).2⟩) (run_all (F := Ideal) m ρ)
  · exact (θ_run Cert.ReferenceIdeal.defs _ _).mono (fun _ hr => hr 0) (Cert.ReferenceIdeal.Value.run (F := Ideal) m' ρ')

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- All five claims: the three frames, that the ideal program is the kernel, and that the kernel computes the
reference's blocks over the extended reals. -/
theorem claim : Cert.Claim := ⟨Cert.Kernel.Gen.facts, Cert.KernelIdeal.Gen.facts, Cert.ReferenceIdeal.Gen.facts,
  Cert.KernelProof.frame_kernel, Cert.KernelProof.frame_ideal, Cert.KernelProof.frame_reference, trivial,
  Cert.KernelProof.value⟩

end Cert.Proof

end
